-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 4096]⟩ ⟨2, ![4096, 4096]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 2048]⟩ ⟨2, ![4096, 8192]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 2048]⟩ ⟨2, ![4096, 8192]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x4096 : Shape := ⟨2, ![1024, 4096]⟩
abbrev S4096x2048 : Shape := ⟨2, ![4096, 2048]⟩
abbrev S1 : Shape := ⟨1, ![1]⟩
abbrev S3x1024x4096 : Shape := ⟨3, ![3, 1024, 4096]⟩
abbrev S2x1024x2048 : Shape := ⟨3, ![2, 1024, 2048]⟩
abbrev S1024x2048 : Shape := ⟨2, ![1024, 2048]⟩
abbrev S2x512x2048 : Shape := ⟨3, ![2, 512, 2048]⟩
abbrev S16 : Shape := ⟨1, ![16]⟩
abbrev S2 : Shape := ⟨1, ![2]⟩
abbrev S3 : Shape := ⟨1, ![3]⟩
abbrev S_ : Shape := ⟨0, ![]⟩
abbrev S1x256x4096 : Shape := ⟨3, ![1, 256, 4096]⟩
abbrev S256x4096 : Shape := ⟨2, ![256, 4096]⟩
abbrev S1x1024x2048 : Shape := ⟨3, ![1, 1024, 2048]⟩
abbrev S1024x1024 : Shape := ⟨2, ![1024, 1024]⟩
abbrev S1x128x4096 : Shape := ⟨3, ![1, 128, 4096]⟩
abbrev S128x4096 : Shape := ⟨2, ![128, 4096]⟩
abbrev S256x2048 : Shape := ⟨2, ![256, 2048]⟩
abbrev S1x256x2048 : Shape := ⟨3, ![1, 256, 2048]⟩
abbrev S128x2048 : Shape := ⟨2, ![128, 2048]⟩
abbrev S1x128x2048 : Shape := ⟨3, ![1, 128, 2048]⟩

abbrev nBuf : Space → Nat
  | .hbm => 5
  | .vmem => 6
  | .smem => 2
  | _ => 0

abbrev bufTy : (tb : Table) → Fin (tcTables nBuf tb) → BufTy
  | .hbm, ⟨0, _⟩ => ⟨S1024x4096, .fp8e5m2⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S1024x4096, .fp8e5m2⟩
  | .local _ .vmem, ⟨1, _⟩ => ⟨S3x1024x4096, .fp8e5m2⟩
  | .local _ .vmem, ⟨2, _⟩ => ⟨S4096x2048, .fp8e5m2⟩
  | .local _ .vmem, ⟨3, _⟩ => ⟨S2x1024x2048, .f32⟩
  | .local _ .vmem, ⟨4, _⟩ => ⟨S1024x2048, .f32⟩
  | .local _ .vmem, ⟨5, _⟩ => ⟨S2x512x2048, .f32⟩
  | .local _ .smem, ⟨0, _⟩ => ⟨S1, .f32⟩
  | .local _ .smem, ⟨1, _⟩ => ⟨S1, .f32⟩
  | _, _ => ⟨S1024x4096, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 1 → Bool
  | ⟨0, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 1 40 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_5 : BitVec 32 := 1#32
  let v10 : BitVec 32 := Scalar.muli v4 c1_i32_5
  let v11 : BitVec 32 := Scalar.addi c0_i32 v10
  v11.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_7 : BitVec 32 := 1#32
  let v12 : BitVec 32 := Scalar.muli v6 c1_i32_7
  let v13 : BitVec 32 := Scalar.addi c0_i32_8 v12
  v13.toNat
def k0_dev3 (d0 : Dev nD) : Nat :=
  let c0_i32_14 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_13 : BitVec 32 := 1#32
  let v14 : BitVec 32 := Scalar.muli v4 c1_i32_13
  let v15 : BitVec 32 := Scalar.addi c0_i32_14 v14
  v15.toNat
def k0_dev4 (d0 : Dev nD) : Nat :=
  let c0_i32_23 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_22 : BitVec 32 := 1#32
  let v23 : BitVec 32 := Scalar.muli v4 c1_i32_22
  let v24 : BitVec 32 := Scalar.addi c0_i32_23 v23
  v24.toNat
def k0_dev5 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_30 : BitVec 32 := 1#32
  let v32 : BitVec 32 := Scalar.muli v4 c1_i32_30
  let v33 : BitVec 32 := Scalar.addi c0_i32_31 v32
  v33.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_38 : BitVec 32 := 1#32
  let v41 : BitVec 32 := Scalar.muli v4 c1_i32_38
  let v42 : BitVec 32 := Scalar.addi c0_i32_39 v41
  v42.toNat
def k0_dev7 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_46 : BitVec 32 := 1#32
  let v50 : BitVec 32 := Scalar.muli v6 c1_i32_46
  let v51 : BitVec 32 := Scalar.addi c0_i32_47 v50
  v51.toNat
def k0_dev8 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_54 : BitVec 32 := 1#32
  let v59 : BitVec 32 := Scalar.muli v6 c1_i32_54
  let v60 : BitVec 32 := Scalar.addi c0_i32_55 v59
  v60.toNat
def k0_dev9 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_62 : BitVec 32 := 1#32
  let v68 : BitVec 32 := Scalar.muli v6 c1_i32_62
  let v69 : BitVec 32 := Scalar.addi c0_i32_63 v68
  v69.toNat
def k0_dev10 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_70 : BitVec 32 := 1#32
  let v77 : BitVec 32 := Scalar.muli v6 c1_i32_70
  let v78 : BitVec 32 := Scalar.addi c0_i32_71 v77
  v78.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_171 : BitVec 32 := 1024#32
  let v189 : BitVec 32 := Scalar.muli v2 c1024_i32_171
  let c0_i32_173 : BitVec 32 := 0#32
  ![v189.toNat, 0]
def k0_dev11 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_195 : BitVec 32 := 1#32
  let v207 : BitVec 32 := Scalar.muli v4 c1_i32_195
  let v208 : BitVec 32 := Scalar.addi c0_i32_196 v207
  v208.toNat
def k0_dev12 (d0 : Dev nD) : Nat :=
  let c0_i32_205 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_204 : BitVec 32 := 1#32
  let v217 : BitVec 32 := Scalar.muli v4 c1_i32_204
  let v218 : BitVec 32 := Scalar.addi c0_i32_205 v217
  v218.toNat
def k0_dev13 (d0 : Dev nD) : Nat :=
  let c0_i32_213 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_212 : BitVec 32 := 1#32
  let v227 : BitVec 32 := Scalar.muli v4 c1_i32_212
  let v228 : BitVec 32 := Scalar.addi c0_i32_213 v227
  v228.toNat
def k0_dev14 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v3 : BitVec 32 := Scalar.addi v2 c3_i32
  let c4_i32_0 : BitVec 32 := 4#32
  let v4 : BitVec 32 := Scalar.remsi v3 c4_i32_0
  let c1_i32_221 : BitVec 32 := 1#32
  let v237 : BitVec 32 := Scalar.muli v4 c1_i32_221
  let v238 : BitVec 32 := Scalar.addi c0_i32_222 v237
  v238.toNat
def k0_dev15 (d0 : Dev nD) : Nat :=
  let c0_i32_248 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_247 : BitVec 32 := 1#32
  let v261 : BitVec 32 := Scalar.muli v6 c1_i32_247
  let v262 : BitVec 32 := Scalar.addi c0_i32_248 v261
  v262.toNat
def k0_dev16 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_255 : BitVec 32 := 1#32
  let v271 : BitVec 32 := Scalar.muli v6 c1_i32_255
  let v272 : BitVec 32 := Scalar.addi c0_i32_256 v271
  v272.toNat
def k0_dev17 (d0 : Dev nD) : Nat :=
  let c0_i32_265 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_264 : BitVec 32 := 1#32
  let v281 : BitVec 32 := Scalar.muli v6 c1_i32_264
  let v282 : BitVec 32 := Scalar.addi c0_i32_265 v281
  v282.toNat
def k0_dev18 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1 : BitVec 32 := 1#32
  let v5 : BitVec 32 := Scalar.addi v2 c1_i32_1
  let c4_i32_2 : BitVec 32 := 4#32
  let v6 : BitVec 32 := Scalar.remsi v5 c4_i32_2
  let c1_i32_272 : BitVec 32 := 1#32
  let v291 : BitVec 32 := Scalar.muli v6 c1_i32_272
  let v292 : BitVec 32 := Scalar.addi c0_i32_273 v291
  v292.toNat
def k0_off2 (d0 : Dev nD) (c1_i32_1 : BitVec 32) (c0_i32_288 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v5 : BitVec 32 := Scalar.addi v2 c1_i32_1
  let c4_i32_2 : BitVec 32 := 4#32
  let v6 : BitVec 32 := Scalar.remsi v5 c4_i32_2
  let c1024_i32_278 : BitVec 32 := 1024#32
  let v301 : BitVec 32 := Scalar.muli v6 c1024_i32_278
  let v311 : BitVec 32 := Scalar.addi v301 c0_i32_288
  let c0_i32_291 : BitVec 32 := 0#32
  ![v311.toNat, 0]
def k0_off3 (d0 : Dev nD) (c0_i32_493 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v7 : BitVec 32 := Scalar.addi v2 c2_i32
  let c4_i32_3 : BitVec 32 := 4#32
  let v8 : BitVec 32 := Scalar.remsi v7 c4_i32_3
  let c1024_i32_479 : BitVec 32 := 1024#32
  let v495 : BitVec 32 := Scalar.muli v8 c1024_i32_479
  let v510 : BitVec 32 := Scalar.addi v495 c0_i32_493
  let c0_i32_496 : BitVec 32 := 0#32
  ![v510.toNat, 0]
abbrev stage0_0 : Fin 1 → Memref sig .tc .vmem S1024x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .f32⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .f32⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Protocol.lean ====
/-
The protocol of the kernel's sixteen remote copies and of its entry barrier: the cells, the pieces of the
communication buffer that move, the contents each landing hands over, and the levels of the waits.

Four devices on a ring; device `c` has a left neighbour `lft c`, a right neighbour `rgt c` and an opposite `opp c`.

* Barrier cell of `c`, one round of two units. `rgt c` pays the duty `false` and hands `c` the pieces of its own
  communication buffer into which `c` copies to the right; `lft c` pays the duty `true` and hands the pieces into
  which `c` copies to the left.
* Copy `i` of the sixteen has a departure cell on its sender and an arrival cell on its target, each with one
  round of one duty, the credit of the block copied. The departure hands back the share of the source lent to the
  copy; the arrival hands the target the piece, holding the block.
* Plane 0 of the communication buffer of `c` receives `rgt c`'s block of `x` (copies 0–3), plane 1 `lft c`'s
  (copies 4–7), plane 2 `opp c`'s, its upper half from the right neighbour's plane 0 (copies 8–11) and its lower
  half from the left neighbour's plane 1 (copies 12–15).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy of the rounds library, the kernel's own, its duties `Bool`, and the
    counters of the local transfers -/

/-- The ghost state of the protocol's cells, -/
abbrev UK : Type := URounds (GSem nD τ sig) Bool
/-- and of everything: the pipeline's, the protocol's and the local copies' counters. -/
abbrev UU : Type := UR sig nD τ × (UK × Counters)

local notation "𝕄" => MT nD τ sig Unit (Elt F) ℕ UU ℕ

/-- The pipeline's part of it. -/
abbrev EP : Emb (UR sig nD τ) (MT nD τ sig Unit (Elt F) ℕ UU ℕ) := embL
/-- The protocol's part of it. -/
abbrev ER : Emb UK (MT nD τ sig Unit (Elt F) ℕ UU ℕ) := (Emb.inl : Emb UK (UK × Counters)).trans embR

variable (m : (ℓ : Loc nD τ sig) → Buf (Elt F) ℓ) (ρ : Dev nD → PrngReg)

/-! ## The ring -/

set_option backward.proofsInPublic true in
/-- The left neighbour. -/
def lft (c : Dev nD) : Dev nD := ⟨(c.val + 3) % 4, Nat.mod_lt _ (by decide)⟩
set_option backward.proofsInPublic true in
/-- The right neighbour. -/
def rgt (c : Dev nD) : Dev nD := ⟨(c.val + 1) % 4, Nat.mod_lt _ (by decide)⟩
set_option backward.proofsInPublic true in
/-- The opposite device. -/
def opp (c : Dev nD) : Dev nD := ⟨(c.val + 2) % 4, Nat.mod_lt _ (by decide)⟩

/-- The right neighbour's left neighbour is the device. -/
theorem lft_rgt (c : Dev nD) : lft (rgt c) = c := by revert c; decide
/-- The left neighbour's right neighbour is the device. -/
theorem rgt_lft (c : Dev nD) : rgt (lft c) = c := by revert c; decide
/-- Two steps to the right is opposite. -/
theorem rgt_rgt (c : Dev nD) : rgt (rgt c) = opp c := by revert c; decide
/-- Two steps to the left is opposite. -/
theorem lft_lft (c : Dev nD) : lft (lft c) = opp c := by revert c; decide

/-! ## The copies -/

/-- Copies 0–3 and 8–11 go to the left neighbour, the others to the right one. -/
def goesLeft (i : Fin 16) : Bool := i.val < 4 || (8 ≤ i.val && i.val < 12)
/-- The device copy `i` of device `c` lands on. -/
def tgt (c : Dev nD) (i : Fin 16) : Dev nD := if goesLeft i then lft c else rgt c
/-- The device whose copy `i` lands on device `c`. -/
def snd (c : Dev nD) (i : Fin 16) : Dev nD := if goesLeft i then rgt c else lft c

/-- The sender of a copy to its target is the device. -/
theorem snd_tgt (c : Dev nD) (i : Fin 16) : snd (tgt c i) i = c := by revert c i; decide
/-- The target of the sender's copy is the device. -/
theorem tgt_snd (c : Dev nD) (i : Fin 16) : tgt (snd c i) i = c := by revert c i; decide

/-- The plane of the communication buffer copy `i` lands in. -/
def pl (i : Fin 16) : ℕ := if i.val < 4 then 0 else if i.val < 8 then 1 else 2
/-- The first row of the block copy `i` moves, the same in the source and in the destination. -/
def lo (i : Fin 16) : ℕ :=
  if i.val < 4 then 256 * i.val else if i.val < 8 then 256 * (7 - i.val) else if i.val < 12 then 128 * (i.val - 8) else 128 * (19 - i.val)
/-- The rows of that block. -/
def nr (i : Fin 16) : ℕ := if i.val < 8 then 256 else 128

/-- A copy's destination is inside the communication buffer. -/
theorem inbC (i : Fin 16) : ∀ a, (![pl i, lo i, 0] : Fin 3 → ℕ) a + (![1, nr i, 4096] : Fin 3 → ℕ) a ≤ S3x1024x4096.size a := by
  revert i; decide
/-- A first-hop copy's source is inside the staged block. -/
theorem inbX (i : Fin 16) : ∀ a, (![lo i, 0] : Fin 2 → ℕ) a + (![nr i, 4096] : Fin 2 → ℕ) a ≤ S1024x4096.size a := by
  revert i; decide
/-- A forwarding copy's source is inside the communication buffer. -/
theorem inbP (i : Fin 16) : ∀ a, (![pl i - 2 + (if goesLeft i then 0 else 1), lo i, 0] : Fin 3 → ℕ) a + (![1, nr i, 4096] : Fin 3 → ℕ) a ≤ S3x1024x4096.size a := by
  revert i; decide

/-- The elements of the communication buffer copy `i` writes on its target. -/
def cset (i : Fin 16) : Finset S3x1024x4096.Idx := (Rect.unit (s := S3x1024x4096) ![pl i, lo i, 0] ![1, nr i, 4096] (inbC i)).set
/-- The elements of the staged block of `x` a copy of the first eight reads. -/
def xset (i : Fin 16) : Finset S1024x4096.Idx := (Rect.unit (s := S1024x4096) ![lo i, 0] ![nr i, 4096] (inbX i)).set
/-- The elements of the communication buffer a copy of the last eight reads on its sender: those rows of plane 0 for
    a copy to the left, of plane 1 for one to the right. -/
def pset (i : Fin 16) : Finset S3x1024x4096.Idx :=
  (Rect.unit (s := S3x1024x4096) ![pl i - 2 + (if goesLeft i then 0 else 1), lo i, 0] ![1, nr i, 4096] (inbP i)).set

/-! ## The cells -/

/-- The runtime's barrier semaphore. -/
abbrev barS : Sem sig := (SemArray.scalar (sig.barrier 0 rfl) : Sems sig S_).sem
set_option backward.proofsInPublic true in
/-- The departure semaphore of copy `i`. -/
abbrev sendS (i : Fin 16) : DmaSem sig := ⟨3 + i.val, by have := i.isLt; show 3 + i.val < 40; omega⟩
set_option backward.proofsInPublic true in
/-- The arrival semaphore of copy `i`. -/
abbrev recvS (i : Fin 16) : DmaSem sig := ⟨19 + i.val, by have := i.isLt; show 19 + i.val < 40; omega⟩

/-- A device's barrier. -/
abbrev barCell (c : Dev nD) : GSem nD τ sig := ((c : Thread nD τ), .reg barS)
/-- A device's send cell of a copy. -/
abbrev sendCell (c : Dev nD) (i : Fin 16) : GSem nD τ sig := ((c : Thread nD τ), .dma (sendS i))
/-- A device's receive cell of a copy. -/
abbrev recvCell (c : Dev nD) (i : Fin 16) : GSem nD τ sig := ((c : Thread nD τ), .dma (recvS i))

/-! ## Contents -/

/-- The staged block of `x`. -/
abbrev xM : Memref sig .tc .vmem S1024x4096 .fp8e5m2 := Memref.whole cc0_stg0_0
/-- The communication buffer. -/
abbrev cM : Memref sig .tc .vmem S3x1024x4096 .fp8e5m2 := Memref.whole cc0_scratch0

/-- Device `c`'s block of `x`, as staged. -/
def xC (c : Dev nD) : S1024x4096.Idx → Elt F .fp8e5m2 := (win0_0.blk (0 : Fin 1)).view.read (Elt F) (m ((c : Thread nD τ).loc main_arg0))

/-- The row and column of an element of the communication buffer. -/
def rc (y : S3x1024x4096.Idx) : S1024x4096.Idx := Fin.cons (y 1) (Fin.cons (y 2) finZeroElim)

/-- What the planes of the communication buffer hold once filled: the right neighbour's, the left neighbour's and the
    opposite device's blocks of `x`. -/
def cC (c : Dev nD) : S3x1024x4096.Idx → Elt F .fp8e5m2 :=
  fun y => if (y 0).val = 0 then xC m (rgt c) (rc y) else if (y 0).val = 1 then xC m (lft c) (rc y) else xC m (opp c) (rc y)

/-! ## The payloads -/

/-- Where the staged block is. -/
abbrev locX (c : Dev nD) : Loc nD τ sig := (c : Thread nD τ).loc cc0_stg0_0
/-- Where the communication buffer is. -/
abbrev locC (c : Dev nD) : Loc nD τ sig := (c : Thread nD τ).loc cc0_scratch0

/-- The share of its source a copy takes: of the staged block of `x` a quarter, one for each direction; of a piece of the
    communication buffer a half. -/
def shr (i : Fin 16) : PosShare TreeShare :=
  if i.val < 8 then (if goesLeft i then fullShare.right.left else fullShare.right.right) else fullShare.right

/-- The source share copy `i` of device `c` takes: of the staged block of `x` or of the sender's communication buffer. -/
def srcPts (c : Dev nD) (i : Fin 16) : sProp 𝕄 :=
  if i.val < 8 then (locX c ↦[xset i]{shr i} xC m c) else (locC c ↦[pset i]{shr i} cC m c)
/-- The piece copy `i` of device `c` writes, at any contents. -/
def dstPts (c : Dev nD) (i : Fin 16) : sProp 𝕄 := iprop(∃ f, locC (tgt c i) ↦[cset i]{fullShare} f)
/-- The piece a copy `i` landing on device `c` has written. -/
def landPts (c : Dev nD) (i : Fin 16) : sProp 𝕄 := (locC c ↦[cset i]{fullShare} cC m c)

/-- What a neighbour's barrier signal hands device `c`: the pieces on it that `c` writes (`d` true: the left one's). -/
def barPay (c : Dev nD) (d : Bool) : sProp 𝕄 := bigSep (Finset.univ.filter fun i => goesLeft i = d) fun i => dstPts (F := F) c i

omit [FloatOps F] in
/-- It can be kept in an invariant. -/
instance srcPts_storable (c : Dev nD) (i) : BI.Storable (upEmb : UEmb _ 𝕄) (srcPts m c i) := by unfold srcPts; split <;> infer_instance
omit [FloatOps F] in
/-- It can be kept in an invariant. -/
instance dstPts_storable (c : Dev nD) (i) : BI.Storable (upEmb : UEmb _ 𝕄) (dstPts (F := F) c i) := by unfold dstPts; infer_instance
omit [FloatOps F] in
/-- It can be kept in an invariant. -/
instance landPts_storable (c : Dev nD) (i) : BI.Storable (upEmb : UEmb _ 𝕄) (landPts m c i) := by unfold landPts; infer_instance
omit [FloatOps F] in
/-- It can be kept in an invariant. -/
instance barPay_storable (c : Dev nD) (d) : BI.Storable (upEmb : UEmb _ 𝕄) (barPay (F := F) c d) := by unfold barPay; infer_instance

/-! ## The schedule -/

/-- The credit of a 256-row block and of a 128-row block. -/
abbrev N256 : ℕ := ((cM.slice (Rect.unit (s := S3x1024x4096) ![0, 0, 0] S1x256x4096.size inb_S3x1024x4096_S1x256x4096_0_0_0) (fun _ => rfl)).squeeze S256x4096 squeezes_S1x256x4096_S256x4096).view.dmaCredit
/-- The credit of a copy of 128 rows. -/
abbrev N128 : ℕ := ((cM.slice (Rect.unit (s := S3x1024x4096) ![0, 0, 0] S1x128x4096.size inb_S3x1024x4096_S1x128x4096_0_0_0) (fun _ => rfl)).squeeze S128x4096 squeezes_S1x128x4096_S128x4096).view.dmaCredit
/-- The credit of copy `i`. -/
def amt (i : Fin 16) : ℕ := if i.val < 8 then N256 else N128
/-- Every copy has a positive amount. -/
theorem amt_pos (i : Fin 16) : 0 < amt i := by
  unfold amt; split
  · exact View.dmaCredit_pos _ (by decide)
  · exact View.dmaCredit_pos _ (by decide)

/-- The copy a DMA semaphore's cell belongs to, and whether as its arrival. -/
def copyOf : SemLoc sig → Option (Bool × Fin 16)
  | .reg _ => none
  | .dma q => if h : 3 ≤ q.val ∧ q.val < 19 then some (false, ⟨q.val - 3, by omega⟩)
      else if h : 19 ≤ q.val ∧ q.val < 35 then some (true, ⟨q.val - 19, by omega⟩) else none

/-- The copy that a send semaphore belongs to. -/
theorem copyOf_send : ∀ i : Fin 16, copyOf (.dma (sendS i)) = some (false, i) := by decide
/-- The copy that a receive semaphore belongs to. -/
theorem copyOf_recv : ∀ i : Fin 16, copyOf (.dma (recvS i)) = some (true, i) := by decide

/-- One round: a barrier cell has both duties, of one unit each; a departure or arrival cell the duty `false`, of the
    block's credit. -/
def rd : Rounds.Schedule (GSem nD τ sig) Bool 𝕄 where
  duties g r := if r = 0 ∧ g.1.2 = .tc then (if g.2 = .reg barS then Finset.univ else if (copyOf g.2).isSome then {false} else ∅) else ∅
  unitless _ := False
  amount g _ _ := match copyOf g.2 with | some (_, i) => amt i | none => 1
  payload g _ d :=
    match copyOf g.2 with
    | some (true, i) => landPts m g.1.1 i
    | some (false, i) => srcPts m g.1.1 i
    | none => barPay g.1.1 d
  amount_pos g _ _ _ := by
    cases copyOf g.2 with
    | none => exact Nat.one_pos
    | some p => exact amt_pos p.2

omit [FloatOps F] in
/-- Every payload can be kept in an invariant. -/
instance rd_payload_storable (g : GSem nD τ sig) (r : ℕ) (d : Bool) : BI.Storable (upEmb : UEmb _ 𝕄) ((rd (F := F) m).payload g r d) := by
  dsimp only [rd]
  cases copyOf g.2 with
  | none => dsimp only; infer_instance
  | some p => obtain ⟨b, i⟩ := p; cases b <;> dsimp only <;> infer_instance

section Sched
variable (c : Dev nD) (i : Fin 16)

omit [FloatOps F] in
/-- A barrier has two duties, one of each neighbour. -/
theorem duties_bar : (rd (F := F) m).duties (barCell c) 0 = Finset.univ := by dsimp only [rd]; rw [if_pos ⟨rfl, rfl⟩, if_pos rfl]
omit [FloatOps F] in
/-- A send cell has one duty. -/
theorem duties_send : (rd (F := F) m).duties (sendCell c i) 0 = {false} := by
  dsimp only [rd]; rw [if_pos ⟨rfl, rfl⟩, if_neg (fun h => by cases h), copyOf_send]; rfl
omit [FloatOps F] in
/-- A receive cell has one duty. -/
theorem duties_recv : (rd (F := F) m).duties (recvCell c i) 0 = {false} := by
  dsimp only [rd]; rw [if_pos ⟨rfl, rfl⟩, if_neg (fun h => by cases h), copyOf_recv]; rfl
omit [FloatOps F] in
/-- There is one round only. -/
theorem duties_later (g : GSem nD τ sig) : ∀ r, 1 ≤ r → (rd (F := F) m).duties g r = ∅ :=
  fun r hr => by dsimp only [rd]; rw [if_neg fun h => by omega]

omit [FloatOps F] in
/-- Each neighbour's signal is of one unit. -/
theorem amount_bar (d : Bool) : (rd (F := F) m).amount (barCell c) 0 d = 1 := rfl
omit [FloatOps F] in
/-- A send cell is paid its copy's amount. -/
theorem amount_send (d : Bool) : (rd (F := F) m).amount (sendCell c i) 0 d = amt i := by dsimp only [rd]; rw [copyOf_send]
omit [FloatOps F] in
/-- A receive cell is paid its copy's amount. -/
theorem amount_recv (d : Bool) : (rd (F := F) m).amount (recvCell c i) 0 d = amt i := by dsimp only [rd]; rw [copyOf_recv]

omit [FloatOps F] in
/-- A barrier expects two units. -/
theorem expect_bar : (rd (F := F) m).expect (barCell c) 0 = 2 := by
  unfold Schedule.expect Schedule.amountOf
  rw [duties_bar, Finset.sum_congr rfl fun d _ => amount_bar m c d, Finset.sum_const, Finset.card_univ, Fintype.card_bool, smul_eq_mul]
omit [FloatOps F] in
/-- A send cell expects its copy's amount. -/
theorem expect_send : (rd (F := F) m).expect (sendCell c i) 0 = amt i := by
  unfold Schedule.expect Schedule.amountOf; rw [duties_send, Finset.sum_singleton, amount_send]
omit [FloatOps F] in
/-- A receive cell expects its copy's amount. -/
theorem expect_recv : (rd (F := F) m).expect (recvCell c i) 0 = amt i := by
  unfold Schedule.expect Schedule.amountOf; rw [duties_recv, Finset.sum_singleton, amount_recv]

omit [FloatOps F] in
/-- A neighbour's signal hands over its blocks of the communication buffer. -/
theorem payload_bar (d : Bool) : (rd (F := F) m).payload (barCell c) 0 d = barPay c d := rfl
omit [FloatOps F] in
/-- A send cell hands back the source. -/
theorem payload_send (d : Bool) : (rd (F := F) m).payload (sendCell c i) 0 d = srcPts m c i := by dsimp only [rd]; rw [copyOf_send]
omit [FloatOps F] in
/-- A receive cell hands over the landed block. -/
theorem payload_recv (d : Bool) : (rd (F := F) m).payload (recvCell c i) 0 d = landPts m c i := by dsimp only [rd]; rw [copyOf_recv]

omit [FloatOps F] in
/-- What a wait on the barrier gets. -/
theorem rest_bar : bigSep ((rd (F := F) m).duties (barCell c) 0 \ ∅) (fun d => (rd (F := F) m).payload (barCell c) 0 d) = iprop(barPay c false ∗ barPay c true) := by
  rw [Finset.sdiff_empty, duties_bar, bigSep_univ_eq_bigSepL [false, true] (by decide) (by decide), bigSepL_cons_cons, bigSepL_singleton,
    payload_bar, payload_bar]
  rfl
omit [FloatOps F] in
/-- What a wait on a send cell gets. -/
theorem rest_send : bigSep ((rd (F := F) m).duties (sendCell c i) 0 \ ∅) (fun d => (rd (F := F) m).payload (sendCell c i) 0 d) = srcPts m c i := by
  rw [Finset.sdiff_empty, duties_send, bigSep_singleton, payload_send]
omit [FloatOps F] in
/-- What a wait on a receive cell gets. -/
theorem rest_recv : bigSep ((rd (F := F) m).duties (recvCell c i) 0 \ ∅) (fun d => (rd (F := F) m).payload (recvCell c i) 0 d) = landPts m c i := by
  rw [Finset.sdiff_empty, duties_recv, bigSep_singleton, payload_recv]

end Sched

/-! ## What each device owes; the levels -/

set_option backward.proofsInPublic true in
/-- The arrivals device `c` still owes when its last `n` copies are to be issued, the next one the last summand. -/
def rem (c : Dev nD) : (n : ℕ) → CellTallies nD τ sig Unit
  | 0 => 0
  | n + 1 => rem c n + tallyAt (recvCell (tgt c ⟨15 - n, by omega⟩) ⟨15 - n, by omega⟩) () (amt ⟨15 - n, by omega⟩)

/-- Starting a copy pays its arrival. -/
theorem rem_succ (c : Dev nD) (i : Fin 16) : rem c (16 - i.val) = rem c (15 - i.val) + tallyAt (recvCell (tgt c i) i) () (amt i) := by
  have h : 16 - i.val = (15 - i.val) + 1 := by omega
  have e : (⟨15 - (15 - i.val), by omega⟩ : Fin 16) = i := Fin.ext (by show 15 - (15 - i.val) = i.val; omega)
  rw [h, rem, e]

/-- At launch: the sixteen arrivals and a unit of each neighbour's barrier cell. -/
def O₁ (c : Dev nD) : CellTallies nD τ sig Unit := rem c 16 + tallyAt (barCell (rgt c)) () 1
/-- What a device owes at the launch. -/
def O₀ (c : Dev nD) : CellTallies nD τ sig Unit := O₁ c + tallyAt (barCell (lft c)) () 1

/-- The one level of a cell of a device. -/
def L (g : GSem nD τ sig) : Finset Unit := if g.1.2 = .tc then {()} else ∅
/-- Barrier cells at 1, arrivals of the first eight copies at 2, of the last eight at 3, everything else at 0. -/
def lvS : SemLoc sig → ℕ
  | .reg _ => 1
  | .dma q => if 19 ≤ q.val ∧ q.val < 27 then 2 else if 27 ≤ q.val ∧ q.val < 35 then 3 else 0
/-- The level of a cell. -/
def lv (g : GSem nD τ sig) (_ : Unit) : ℕ := lvS g.2

/-- Other threads have none. -/
theorem L_of_ne (g : GSem nD τ sig) (h : g.1.2 ≠ .tc) : L g = ∅ := if_neg h
/-- A device's cell has one. -/
theorem L_tc (c : Dev nD) (sm : SemLoc sig) : L ((c : Thread nD τ), sm) = {()} := if_pos rfl

/-- Every unit owed is owed to a cell of a TensorCore above level `k`. -/
def Above (k : ℕ) (O : CellTallies nD τ sig Unit) : Prop := ∀ g u, 0 < O g u → (∃ c : Dev nD, g.1 = (c : Thread nD τ)) ∧ k < lvS g.2

/-- Nothing owed is above every level. -/
theorem Above.zero (k : ℕ) : Above k 0 := fun g u h => absurd h (Nat.lt_irrefl 0)
/-- What is above a level adds up above it. -/
theorem Above.add {k : ℕ} {O O' : CellTallies nD τ sig Unit} (h : Above k O) (h' : Above k O') : Above k (O + O') := fun g u hg => by
  rw [Pi.add_apply, Finsupp.add_apply] at hg
  rcases Nat.lt_or_ge 0 (O g u) with hp | hz
  · exact h g u hp
  · exact h' g u (by omega)
/-- One debt above a level. -/
theorem Above.tally {k : ℕ} (c : Dev nD) (sm : SemLoc sig) (n : ℕ) (h : k < lvS sm) : Above k (tallyAt ((c : Thread nD τ), sm) () n) := fun g u hg => by
  rw [tallyAt_apply] at hg
  by_cases h' : g = ((c : Thread nD τ), sm) ∧ u = ()
  · rw [h'.1]; exact ⟨⟨c, rfl⟩, h⟩
  · rw [if_neg h'] at hg; exact absurd hg (Nat.lt_irrefl 0)
/-- The arrivals of the forwarding copies are above level 2, -/
theorem Above.rem8 (c : Dev nD) : ∀ n, n ≤ 8 → Above 2 (rem c n)
  | 0, _ => Above.zero 2
  | n + 1, h => (Above.rem8 c n (by omega)).add (Above.tally _ _ _ (by
      show 2 < (if 19 ≤ 19 + (15 - n) ∧ 19 + (15 - n) < 27 then 2 else if 27 ≤ 19 + (15 - n) ∧ 19 + (15 - n) < 35 then 3 else 0)
      rw [if_neg (by omega), if_pos (by omega)]; decide))
/-- all arrivals are above level 1, -/
theorem Above.rem16 (c : Dev nD) : ∀ n, n ≤ 16 → Above 1 (rem c n)
  | 0, _ => Above.zero 1
  | n + 1, h => (Above.rem16 c n (by omega)).add (Above.tally _ _ _ (by
      show 1 < (if 19 ≤ 19 + (15 - n) ∧ 19 + (15 - n) < 27 then 2 else if 27 ≤ 19 + (15 - n) ∧ 19 + (15 - n) < 35 then 3 else 0)
      split
      · decide
      · rw [if_pos (by omega)]; decide))
/-- What is above a level is above a lower one, -/
theorem Above.mono {k k' : ℕ} {O : CellTallies nD τ sig Unit} (h : Above k O) (hk : k' ≤ k) : Above k' O :=
  fun g u hg => ⟨(h g u hg).1, lt_of_le_of_lt hk (h g u hg).2⟩
/-- and all that is owed at the launch is above level 0. -/
theorem Above.launch (c : Dev nD) : Above 0 (O₀ c) :=
  (((Above.rem16 c 16 le_rfl).mono (by decide)).add (Above.tally _ _ _ Nat.one_pos)).add (Above.tally _ _ _ Nat.one_pos)

omit [FloatOps F] in
/-- A device may wait on a cell of its own below everything it owes. -/
theorem mayWait (c : Dev nD) (sm : SemLoc sig) (O : CellTallies nD τ sig Unit) (h : Above (lvS sm) O) :
    (levAts L lv : sProp 𝕄) ⊢ MayWait (c : Thread nD τ) sm () O :=
  MayOwe.of_cut (L := L) (lev := lv) (lvS sm) (fun p hp => by rw [Finset.mem_singleton.mp hp, L_tc]; exact Finset.mem_singleton_self _)
    (fun g u hg => by
      obtain ⟨⟨c', h'⟩, -⟩ := h g u hg
      obtain ⟨t, s⟩ := g
      rw [show t = (c' : Thread nD τ) from h', L_tc]; exact Finset.mem_singleton_self _)
    (fun p hp => by rw [Finset.mem_singleton.mp hp]; exact le_rfl)
    (fun g u hg => (h g u hg).2)

end Cert.Gather

end
-- ==== Proof.Steps.lean ====
/-
The steps of the protocol, one lemma per kind of statement, for every copy at once: a barrier signal, the barrier
wait, a remote copy issued, an arrival awaited, a departure awaited.
-/
module

public import proofs.«01_k».proof.Proof.Protocol

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- No loop of the body needs a variant. -/
abbrev 𝒱₀ : Variants := Variants.none

/-! ## The cells numbered -/

set_option backward.proofsInPublic true in
/-- A device's 33 cells: the barrier's, the sixteen departures', the sixteen arrivals'. -/
def csem (k : Fin 33) : SemLoc sig := if k.val = 0 then .reg barS else .dma ⟨k.val + 2, by have := k.isLt; show k.val + 2 < 40; omega⟩
/-- The protocol's cells, numbered. -/
abbrev kcell (ck : Dev nD × Fin 33) : GSem nD τ sig := ((ck.1 : Thread nD τ), csem ck.2)

set_option backward.proofsInPublic true in
/-- The number of a send semaphore. -/
abbrev kS (i : Fin 16) : Fin 33 := ⟨1 + i.val, by omega⟩
set_option backward.proofsInPublic true in
/-- The number of a receive semaphore. -/
abbrev kR (i : Fin 16) : Fin 33 := ⟨17 + i.val, by omega⟩

/-- Number zero is the barrier, -/
theorem csem_bar : csem 0 = .reg barS := rfl
/-- then come the send semaphores, -/
theorem csem_send : ∀ i : Fin 16, csem (kS i) = .dma (sendS i) := by decide
/-- then the receive semaphores. -/
theorem csem_recv : ∀ i : Fin 16, csem (kR i) = .dma (recvS i) := by decide

/-- Every cell's invariant, at the names the launch allocated, and that its round 0 is open. -/
def records (K : Dev nD × Fin 33 → ℕ) : sProp 𝕄 :=
  bigSep Finset.univ fun p : Dev nD × Fin 33 => iprop(cellInv ER (rd m) (K p) (kcell p) ∗ reached ER (kcell p) 0)

omit [FloatOps F] in
/-- The records can be used again and again. -/
instance records_persistent (K : Dev nD × Fin 33 → ℕ) : BI.Persistent (records m K) := by unfold records; infer_instance

omit [FloatOps F] in
/-- Among the records is that of any cell: -/
theorem records_at (K : Dev nD × Fin 33 → ℕ) (p : Dev nD × Fin 33) :
    records m K ⊢ iprop(cellInv ER (rd m) (K p) (kcell p) ∗ reached ER (kcell p) 0) := by
  unfold records; rw [bigSep_erase (Finset.mem_univ p)]; exact sep_elim_left

omit [FloatOps F] in
/-- of a barrier, -/
theorem records_bar (K : Dev nD × Fin 33 → ℕ) (c : Dev nD) :
    records m K ⊢ iprop(cellInv ER (rd m) (K (c, 0)) (barCell c) ∗ reached ER (barCell c) 0) := records_at m K (c, 0)
omit [FloatOps F] in
/-- of a send cell, -/
theorem records_send (K : Dev nD × Fin 33 → ℕ) (c : Dev nD) (i : Fin 16) :
    records m K ⊢ iprop(cellInv ER (rd m) (K (c, kS i)) (sendCell c i) ∗ reached ER (sendCell c i) 0) := by
  have h := records_at m K (c, kS i)
  rw [show kcell (c, kS i) = sendCell c i from congrArg _ (csem_send i)] at h
  exact h
omit [FloatOps F] in
/-- of a receive cell. -/
theorem records_recv (K : Dev nD × Fin 33 → ℕ) (c : Dev nD) (i : Fin 16) :
    records m K ⊢ iprop(cellInv ER (rd m) (K (c, kR i)) (recvCell c i) ∗ reached ER (recvCell c i) 0) := by
  have h := records_at m K (c, kR i)
  rw [show kcell (c, kR i) = recvCell c i from congrArg _ (csem_recv i)] at h
  exact h

/-! ## The rights a device spends -/

/-- To issue copy `i`: the duties of its departure and of its arrival, and the position at the departure cell. -/
def SendTok (c : Dev nD) (i : Fin 16) : sProp 𝕄 :=
  iprop(dutyTok ER (sendCell c i) 0 false ∗ dutyTok ER (recvCell (tgt c i) i) 0 false ∗ atPos ER (sendCell c i) 0 ∅ 0)
/-- To await the departure of copy `i`, once issued. -/
def Sent (c : Dev nD) (i : Fin 16) : sProp 𝕄 := iprop(cred (tallyAt (sendCell c i) () (amt i)) ∗ atPos ER (sendCell c i) 0 ∅ 0)
/-- To await the arrival of the copy `i` that lands here. -/
def RecvTok (c : Dev nD) (i : Fin 16) : sProp 𝕄 := iprop(cred (tallyAt (recvCell c i) () (amt i)) ∗ atPos ER (recvCell c i) 0 ∅ 0)
/-- To await both barrier signals. -/
def BarTok (c : Dev nD) : sProp 𝕄 := iprop(cred (tallyAt (barCell c) () 2) ∗ atPos ER (barCell c) 0 ∅ 0)

section Steps

variable (K : Dev nD × Fin 33 → ℕ) (c : Dev nD)

/-- The weakest precondition of a kernel body on device `c`. -/
abbrev wpB (c : Dev nD) (P : Prog (TpuEff nD τ sig (Elt F) Λ₀ .tc) PUnit) (Q : PUnit → sProp 𝕄) : sProp 𝕄 :=
  wp frame (wpE (defs₀ (F := F)) 𝒱₀ (c : Thread nD τ) none) Set.univ P Q

/-- A barrier signal to `c'`: the sender hands over what the duty `d` of `c'`'s barrier cell promises. -/
theorem wp_bar_signal {c₁ : Dev nD} (c' : Dev nD) (hc : c₁ = c') (d : Bool) (O : CellTallies nD τ sig Unit) (W : Waits sig Unit) {z : ℤ} (hn : 1 = z)
    {k : PUnit → Prog (TpuEff nD τ sig (Elt F) Λ₀ .tc) PUnit} {Q : PUnit → sProp 𝕄} :
    iprop(records m K ∗ owes (c : Thread nD τ) (O + tallyAt (barCell c') () 1) W ∗ dutyTok ER (barCell c') 0 d ∗ barPay c' d)
      ⊢ iprop((owes (c : Thread nD τ) O W -∗ wpB c (k ⟨⟩) Q)
          -∗ wpB c (.op (.semSignal (Dev.tc c₁) barS z) k) Q) := by
  subst hn hc
  iintro ⟨#HR, HO, Ht, Hp⟩ Hk
  ihave HI := (records_bar m K c₁) $$ HR
  icases HI with ⟨#HI, #Hre⟩
  iapply (Rounds.wp_signal 𝒱₀ ER (rd m) (c : Thread nD τ) none (dst := (c₁ : Thread nD τ)) (κ := K (c₁, 0)) (d := d)
    (by rw [duties_bar]; exact Finset.mem_univ _) (amount_bar m c₁ d) () O rfl) $$ [HO Ht Hp]
  · isplitr; · iexact HI
    isplitl [HO]; · iexact HO
    isplitl [Ht]; · iexact Ht
    isplitl [Hp]; · rw [payload_bar]; iexact Hp
    iexact Hre
  iexact Hk

/-- The barrier wait: both neighbours' pieces come with it, and the barrier cell closes at zero. -/
theorem wp_bar_wait (W : Waits sig Unit) {z : ℤ} (hn : 2 = z) {k : PUnit → Prog (TpuEff nD τ sig (Elt F) Λ₀ .tc) PUnit} {Q : PUnit → sProp 𝕄} :
    iprop(records m K ∗ levAts L lv ∗ owes (c : Thread nD τ) (rem c 16) W ∗ BarTok c)
      ⊢ iprop((∀ W', (owes (c : Thread nD τ) (rem c 16) W' ∗ semVal (barCell c) 0 ∗ barPay c false ∗ barPay c true) -∗ wpB c (k ⟨⟩) Q)
          -∗ wpB c (.op (.semWait barS z) k) Q) := by
  subst hn
  unfold BarTok
  iintro ⟨#HR, #Hlev, HO, Hc, Hat⟩ Hk
  ihave HI := (records_bar m K c) $$ HR
  icases HI with ⟨#HI, -⟩
  iapply (Rounds.wp_wait_rest_token 𝒱₀ ER (rd m) (c : Thread nD τ) none (κ := K (c, 0))
      (wpE_semWait_eq 𝒱₀ (c : Thread nD τ) none Set.univ) (Set.mem_univ _) () (O := rem c 16) (W := W) (R := 0) (m := 0) (T := ∅)
      (by rw [expect_bar])) $$ [Hc HO Hat]
  · isplitr; · iexact HI
    isplitl [Hc]; · iexact Hc
    isplitl [HO]; · iexact HO
    isplitr; · iapply (mayWait c (.reg barS) _ (Above.rem16 c 16 le_rfl)); iexact Hlev
    iexact Hat
  iintro ⟨HO, Hat, -, Hpay⟩
  imod (Rounds.cell_close ER (rd m) (Set.mem_univ (K (c, 0))) (fun h => h) (R := 0 + 1) (duties_later m (barCell c))) $$ [Hat] with Hz
  · isplitr; · iexact HI
    iexact Hat
  ihave Hp := (Entails.of_eq (rest_bar m c)) $$ Hpay
  iapply Hk
  isplitl [HO]; · iexact HO
  isplitl [Hz]; · iexact Hz
  iexact Hp

/-- The wait for the copy `i` that lands here: the piece holding the block comes with it, and the cell closes at zero. -/
theorem wp_recv_wait (i : Fin 16) (O : CellTallies nD τ sig Unit) (hO : Above (lvS (.dma (recvS i))) O) (W : Waits sig Unit)
    {sp sp' : Space} {s s' : Shape} {e e' : EltTy} {src : Memref sig .tc sp' s' e'} {κ' : Kind} {dst : Memref sig κ' sp s e}
    {hsrc : src.view.WordExact} {hdst : dst.view.WordExact} {sm : DmaSem sig} (hsm : sm = recvS i) (hn : amt i = dst.view.dmaCredit)
    {k : PUnit → Prog (TpuEff nD τ sig (Elt F) Λ₀ .tc) PUnit} {Q : PUnit → sProp 𝕄} :
    iprop(records m K ∗ levAts L lv ∗ owes (c : Thread nD τ) O W ∗ RecvTok c i)
      ⊢ iprop((∀ W', (owes (c : Thread nD τ) O W' ∗ semVal (recvCell c i) 0 ∗ landPts m c i) -∗ wpB c (k ⟨⟩) Q)
          -∗ wpB c (.op (.waitDma2 sm src dst hsrc hdst) k) Q) := by
  subst hsm
  unfold RecvTok
  rw [hn]
  iintro ⟨#HR, #Hlev, HO, Hc, Hat⟩ Hk
  ihave HI := (records_recv m K c i) $$ HR
  icases HI with ⟨#HI, -⟩
  iapply (Rounds.wp_wait_rest_token 𝒱₀ ER (rd m) (c : Thread nD τ) none (κ := K (c, kR i))
      (wpE_waitDma2_eq 𝒱₀ (c : Thread nD τ) none Set.univ) (Set.mem_univ _) () (O := O) (W := W) (R := 0) (m := 0) (T := ∅)
      (by rw [expect_recv, Nat.zero_add, hn])) $$ [Hc HO Hat]
  · isplitr; · iexact HI
    isplitl [Hc]; · iexact Hc
    isplitl [HO]; · iexact HO
    isplitr; · iapply (mayWait c (.dma (recvS i)) _ hO); iexact Hlev
    iexact Hat
  iintro ⟨HO, Hat, -, Hpay⟩
  imod (Rounds.cell_close ER (rd m) (Set.mem_univ (K (c, kR i))) (fun h => h) (R := 0 + 1) (duties_later m (recvCell c i))) $$ [Hat] with Hz
  · isplitr; · iexact HI
    iexact Hat
  ihave Hp := (Entails.of_eq (rest_recv m c i)) $$ Hpay
  iapply Hk
  isplitl [HO]; · iexact HO
  isplitl [Hz]; · iexact Hz
  iexact Hp

/-- The wait for the departure of copy `i`: the source share comes back, and the cell closes at zero. -/
theorem wp_send_wait (i : Fin 16) (W : Waits sig Unit)
    {sp sp' : Space} {s s' : Shape} {e e' : EltTy} {src : Memref sig .tc sp' s' e'} {κ' : Kind} {dst : Memref sig κ' sp s e}
    {hsrc : src.view.WordExact} {hdst : dst.view.WordExact} {sm : DmaSem sig} (hsm : sm = sendS i) (hn : amt i = dst.view.dmaCredit)
    {k : PUnit → Prog (TpuEff nD τ sig (Elt F) Λ₀ .tc) PUnit} {Q : PUnit → sProp 𝕄} :
    iprop(records m K ∗ owes (c : Thread nD τ) 0 W ∗ Sent c i)
      ⊢ iprop((∀ W', (owes (c : Thread nD τ) 0 W' ∗ semVal (sendCell c i) 0 ∗ srcPts m c i) -∗ wpB c (k ⟨⟩) Q)
          -∗ wpB c (.op (.waitDma2 sm src dst hsrc hdst) k) Q) := by
  subst hsm
  unfold Sent
  rw [hn]
  iintro ⟨#HR, HO, Hc, Hat⟩ Hk
  ihave HI := (records_send m K c i) $$ HR
  icases HI with ⟨#HI, -⟩
  iapply (Rounds.wp_wait_rest_token 𝒱₀ ER (rd m) (c : Thread nD τ) none (κ := K (c, kS i))
      (wpE_waitDma2_eq 𝒱₀ (c : Thread nD τ) none Set.univ) (Set.mem_univ _) () (O := 0) (W := W) (R := 0) (m := 0) (T := ∅)
      (by rw [expect_send, Nat.zero_add, hn])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (rd m) (Set.mem_univ (K (c, kS i))) (fun h => h) (R := 0 + 1) (duties_later m (sendCell c i))) $$ [Hat] with Hz
  · isplitr; · iexact HI
    iexact Hat
  ihave Hp := (Entails.of_eq (rest_send m c i)) $$ Hpay
  iapply Hk
  isplitl [HO]; · iexact HO
  isplitl [Hz]; · iexact Hz
  iexact Hp

/-- Copy `i` issued: it takes the share of the source and the piece on its target, and pays one of the arrivals the device
    owes; what is left is the right to await the departure. -/
theorem wp_send (i : Fin 16) (c' : Dev nD) (hc : c' = tgt c i) (W : Waits sig Unit) {s : Shape}
    {src dst : Memref sig .tc .vmem s .fp8e5m2} {hsc : (dst : Memref sig (Dev.tc c' : Thread nD τ).2.kind .vmem s .fp8e5m2).view.ref.isScScratch = false}
    {sS sR : DmaSem sig} (hS : sS = sendS i) (hR : sR = recvS i)
    {hsrc : src.view.WordExact} {hdst : dst.view.WordExact}
    {hsem : DmaTarget.Typed .vmem (.dma sR) (.remote (Dev.tc c' : Thread nD τ) (dst : Memref sig (Dev.tc c' : Thread nD τ).2.kind .vmem s .fp8e5m2) (.dma sS) hsc)}
    {fs : Buf (Elt F) (src.view.loc (c : Thread nD τ))}
    (hn : dst.view.dmaCredit = amt i)
    (hpS : srcPts m c i = (src.view.loc (c : Thread nD τ) ↦[src.view.set]{shr i} fs))
    (hpD : dstPts c i = iprop(∃ fd : Buf (Elt F) (dst.view.loc (tgt c i : Thread nD τ)), (dst.view.loc (tgt c i : Thread nD τ) ↦[dst.view.set]{fullShare} fd)))
    (hpL : ∀ fd : Buf (Elt F) (dst.view.loc (tgt c i : Thread nD τ)),
      (dst.view.loc (tgt c i : Thread nD τ) ↦[dst.view.set]{fullShare} (dst.view.write (Elt F) fd (src.view.read (Elt F) fs) Finset.univ) : sProp 𝕄) = landPts m (tgt c i) i)
    {k : PUnit → Prog (TpuEff nD τ sig (Elt F) Λ₀ .tc) PUnit} {Q : PUnit → sProp 𝕄} :
    iprop(records m K ∗ srcPts m c i ∗ dstPts c i ∗ owes (c : Thread nD τ) (rem c (16 - i.val)) W ∗ SendTok c i)
      ⊢ iprop(((Sent c i ∗ owes (c : Thread nD τ) (rem c (15 - i.val)) W) -∗ wpB c (k ⟨⟩) Q)
          -∗ wpB c (.op (.enqueueDma src (.remote (Dev.tc c' : Thread nD τ) dst (.dma sS) hsc) (.dma sR) hsrc hdst hsem) k) Q) := by
  subst hc hS hR
  rw [hpS, hpD]
  unfold SendTok Sent
  iintro ⟨#HR, Hs, ⟨%fd, Hd⟩, HO, Ht1, Ht2, Hat⟩ Hk
  ihave HI := (records_send m K c i) $$ HR
  icases HI with ⟨#HI1, #Hr1⟩
  ihave HI := (records_recv m K (tgt c i) i) $$ HR
  icases HI with ⟨#HI2, #Hr2⟩
  iapply (Rounds.wp_send_pointsTo 𝒱₀ ER (rd m) (c : Thread nD τ) none (κ₁ := K (c, kS i)) (κ₂ := K (tgt c i, kR i))
    (sS := .dma (sendS i)) (sem := .dma (recvS i)) (r₁ := 0) (r₂ := 0) (d₁ := false) (d₂ := false) (fd := fd)
    (by rw [duties_send]; exact Finset.mem_singleton_self _) (by rw [duties_recv]; exact Finset.mem_singleton_self _)
    () () (amt i) hn (amount_send m c i false) (amount_recv m (tgt c i) i false) (rem c (15 - i.val)) (rem_succ c i) (W := W)
    (by rw [payload_send, hpS])
    (by rw [payload_recv, hpL])) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc Hat]
  · isplitl [Hc] <;> iassumption
  iexact HO

end Steps

end Cert.Gather

end
-- ==== Proof.Copies.lean ====
/-
The sixteen copies as the kernel issues them: what a copy reads and writes, and that what it writes is the block the
arrival promises.
-/
module

public import proofs.«01_k».proof.Proof.Steps

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The windows -/

/-- A window of rows of the staged block of `x` is inside it. -/
theorem inbXW {o n : ℕ} (h : o + n ≤ 1024) : ∀ a, (![o, 0] : Fin 2 → ℕ) a + (![n, 4096] : Fin 2 → ℕ) a ≤ S1024x4096.size a := by
  intro a; fin_cases a
  · exact h
  · exact le_rfl
/-- A window of rows of a plane of the communication buffer is inside it. -/
theorem inbCW {p o n : ℕ} (hp : p < 3) (h : o + n ≤ 1024) : ∀ a, (![p, o, 0] : Fin 3 → ℕ) a + (![1, n, 4096] : Fin 3 → ℕ) a ≤ S3x1024x4096.size a := by
  intro a; fin_cases a
  · exact hp
  · exact h
  · exact le_rfl

/-- Rectangles of the same offsets and sizes have the same elements. -/
theorem unit_set_congr {s : Shape} {off off' size size' : Fin s.rank → ℕ} (ho : off = off') (hs : size = size') (inb) (inb') :
    (Rect.unit (s := s) off size inb).set = (Rect.unit (s := s) off' size' inb').set := by subst ho hs; rfl

/-- Rows `[o, o + n)` of the staged block. -/
abbrev xW (o n : ℕ) (h : ∀ a, (![o, 0] : Fin 2 → ℕ) a + (![n, 4096] : Fin 2 → ℕ) a ≤ S1024x4096.size a) : Memref sig .tc .vmem ⟨2, ![n, 4096]⟩ .fp8e5m2 :=
  xM.slice (Rect.unit (s := S1024x4096) ![o, 0] ![n, 4096] h) (fun _ => rfl)

/-- Rows `[o, o + n)` of plane `p` of the communication buffer. -/
abbrev cW (p o n : ℕ) (h : ∀ a, (![p, o, 0] : Fin 3 → ℕ) a + (![1, n, 4096] : Fin 3 → ℕ) a ≤ S3x1024x4096.size a)
    (hq : (⟨3, ![1, n, 4096]⟩ : Shape).Squeezes ⟨2, ![n, 4096]⟩) : Memref sig .tc .vmem ⟨2, ![n, 4096]⟩ .fp8e5m2 :=
  (cM.slice (Rect.unit (s := S3x1024x4096) ![p, o, 0] ![1, n, 4096] h) (fun _ => rfl)).squeeze ⟨2, ![n, 4096]⟩ hq

/-- The places of a window of the staged block of `x`. -/
theorem set_xW (o n : ℕ) (h) : (xW o n h).view.set = (Rect.unit (s := S1024x4096) ![o, 0] ![n, 4096] h).set :=
  View.set_slice_whole cc0_stg0_0 _
/-- The places of a window of the communication buffer. -/
theorem set_cW (p o n : ℕ) (h) (hq) : (cW p o n h hq).view.set = (Rect.unit (s := S3x1024x4096) ![p, o, 0] ![1, n, 4096] h).set :=
  (View.set_reshape _ _).trans (View.set_slice_whole cc0_scratch0 _)

/-- The element under an index of a window of the communication buffer: its plane, and the element of the block of `x`
    under the same index of the same rows. -/
theorem emb_cW (p o n : ℕ) (h) (hq) (h') (j : (⟨2, ![n, 4096]⟩ : Shape).Idx) :
    (((cW p o n h hq).view.emb j : S3x1024x4096.Idx) 0).val = p ∧ rc ((cW p o n h hq).view.emb j) = (xW o n h').view.emb j := by
  have e : (cW p o n h hq).view.emb j = (Rect.unit (s := S3x1024x4096) ![p, o, 0] ![1, n, 4096] h).emb (Fin.cons ⟨0, Nat.one_pos⟩ j) :=
    congrArg (Rect.unit (s := S3x1024x4096) ![p, o, 0] ![1, n, 4096] h).emb (Shape.reshapeEquiv_cons_one hq.numel_eq j)
  rw [e]
  refine ⟨rfl, ?_⟩
  funext a
  fin_cases a <;> rfl

section Content
variable (c : Dev nD) (i : Fin 16)

omit [FloatOps F] in
/-- Where a copy of the first eight lands its target expects the sender's block. -/
theorem cC_first (hi : i.val < 8) (y : S3x1024x4096.Idx) (hy : (y 0).val = pl i) : cC m (tgt c i) y = xC m c (rc y) := by
  unfold cC
  rw [hy]
  by_cases h4 : i.val < 4
  · rw [show pl i = 0 from if_pos h4, if_pos rfl, show tgt c i = lft c from if_pos (by simp only [goesLeft, h4, decide_true, Bool.true_or]), rgt_lft]
  · rw [show pl i = 1 by unfold pl; rw [if_neg h4, if_pos hi], if_neg Nat.one_ne_zero, if_pos rfl,
      show tgt c i = rgt c from if_neg (by simp only [goesLeft, h4, decide_false, Bool.false_or, Bool.and_eq_true, decide_eq_true_eq]; omega), lft_rgt]

/-- The device opposite the left neighbour is the right neighbour. -/
theorem opp_lft (c : Dev nD) : opp (lft c) = rgt c := by revert c; decide
/-- The device opposite the right neighbour is the left neighbour. -/
theorem opp_rgt (c : Dev nD) : opp (rgt c) = lft c := by revert c; decide

omit [FloatOps F] in
/-- Where a copy of the last eight lands its target expects what the sender's plane of the same direction holds. -/
theorem cC_last (hi : 8 ≤ i.val) (y z : S3x1024x4096.Idx) (hy : (y 0).val = pl i) (hz : (z 0).val = pl i - 2 + (if goesLeft i then 0 else 1)) (hyz : rc y = rc z) :
    cC m (tgt c i) y = cC m c z := by
  have hp : pl i = 2 := by unfold pl; rw [if_neg (by omega), if_neg (by omega)]
  unfold cC
  rw [hy, hz, hp, hyz, if_neg (by decide), if_neg (by decide)]
  cases hg : goesLeft i
  · rw [show tgt c i = rgt c by unfold tgt; rw [hg]; rfl, opp_rgt]; rfl
  · rw [show tgt c i = lft c by unfold tgt; rw [hg]; rfl, opp_lft]; rfl

end Content

/-! ## A copy's three payloads over its windows -/

section Payload
variable (c : Dev nD) (i : Fin 16)

omit [FloatOps F] in
/-- What a first-hop copy takes of its source, said of its window of the staged block of `x`. -/
theorem srcPts_first {o n : ℕ} (hi : i.val < 8) (ho : o = lo i) (hn : n = nr i) (h) :
    srcPts m c i = ((xW o n h).view.loc (c : Thread nD τ) ↦[(xW o n h).view.set]{shr i} xC m c : sProp 𝕄) := by
  subst ho hn
  unfold srcPts
  rw [if_pos hi, set_xW]; rfl

omit [FloatOps F] in
/-- What a forwarding copy takes of its source, said of its window of the communication buffer. -/
theorem srcPts_last {p o n : ℕ} (hi : ¬ i.val < 8) (hp : p = pl i - 2 + (if goesLeft i then 0 else 1)) (ho : o = lo i) (hn : n = nr i) (h) (hq) :
    srcPts m c i = ((cW p o n h hq).view.loc (c : Thread nD τ) ↦[(cW p o n h hq).view.set]{shr i} cC m c : sProp 𝕄) := by
  subst hp ho hn
  unfold srcPts
  rw [if_neg hi, set_cW]; rfl

omit [FloatOps F] in
/-- What a copy needs of its destination, said of its window. -/
theorem dstPts_eq {p o n : ℕ} (hp : p = pl i) (ho : o = lo i) (hn : n = nr i) (h) (hq) :
    dstPts (F := F) c i = iprop(∃ fd : Buf (Elt F) ((cW p o n h hq).view.loc (tgt c i : Thread nD τ)),
      ((cW p o n h hq).view.loc (tgt c i : Thread nD τ) ↦[(cW p o n h hq).view.set]{fullShare} fd)) := by
  subst hp ho hn
  unfold dstPts
  rw [set_cW]; rfl

omit [FloatOps F] in
/-- What a landing hands over, said of its window. -/
theorem landPts_eq {p o n : ℕ} (hp : p = pl i) (ho : o = lo i) (hn : n = nr i) (h) (hq) :
    landPts m c i = ((cW p o n h hq).view.loc (c : Thread nD τ) ↦[(cW p o n h hq).view.set]{fullShare} cC m c : sProp 𝕄) := by
  subst hp ho hn
  unfold landPts
  rw [set_cW]; rfl

omit [FloatOps F] in
/-- The elements written hold the block the arrival promises, the values read being that block's. -/
theorem land_eq {p o n : ℕ} (hp : p = pl i) (ho : o = lo i) (hn : n = nr i) (h) (hq)
    (w : (⟨2, ![n, 4096]⟩ : Shape).Idx → Elt F .fp8e5m2) (hw : ∀ j, w j = cC m (tgt c i) ((cW p o n h hq).view.emb j))
    (fd : Buf (Elt F) ((cW p o n h hq).view.loc (tgt c i : Thread nD τ))) :
    ((cW p o n h hq).view.loc (tgt c i : Thread nD τ) ↦[(cW p o n h hq).view.set]{fullShare} ((cW p o n h hq).view.write (Elt F) fd w Finset.univ) : sProp 𝕄)
      = landPts m (tgt c i) i := by
  rw [landPts_eq m (tgt c i) i hp ho hn h hq]
  refine pointsTo_congr fun y hy => ?_
  obtain ⟨j, -, rfl⟩ := Finset.mem_map.mp hy
  exact (View.write_emb_of_mem _ _ (Finset.mem_univ j)).trans (hw j)

omit [FloatOps F] in
/-- A first-hop copy lands with the contents that the schedule promises. -/
theorem land_first {p o n : ℕ} (hi : i.val < 8) (hp : p = pl i) (ho : o = lo i) (hn : n = nr i) (h) (hq) (h')
    (fd : Buf (Elt F) ((cW p o n h hq).view.loc (tgt c i : Thread nD τ))) :
    ((cW p o n h hq).view.loc (tgt c i : Thread nD τ) ↦[(cW p o n h hq).view.set]{fullShare}
        ((cW p o n h hq).view.write (Elt F) fd ((xW o n h').view.read (Elt F) (xC m c)) Finset.univ) : sProp 𝕄) = landPts m (tgt c i) i :=
  land_eq m c i hp ho hn h hq _ (fun j => by
    have e := emb_cW p o n h hq h' j
    rw [cC_first m c i hi _ (e.1.trans hp), e.2]; rfl) fd

omit [FloatOps F] in
/-- A forwarding copy lands with the contents that the schedule promises. -/
theorem land_last {p p' o n : ℕ} (hi : 8 ≤ i.val) (hp : p = pl i) (hp' : p' = pl i - 2 + (if goesLeft i then 0 else 1)) (ho : o = lo i) (hn : n = nr i) (h) (hq) (h')
    (hx : ∀ a, (![o, 0] : Fin 2 → ℕ) a + (![n, 4096] : Fin 2 → ℕ) a ≤ S1024x4096.size a)
    (fd : Buf (Elt F) ((cW p o n h hq).view.loc (tgt c i : Thread nD τ))) :
    ((cW p o n h hq).view.loc (tgt c i : Thread nD τ) ↦[(cW p o n h hq).view.set]{fullShare}
        ((cW p o n h hq).view.write (Elt F) fd ((cW p' o n h' hq).view.read (Elt F) (cC m c)) Finset.univ) : sProp 𝕄) = landPts m (tgt c i) i :=
  land_eq m c i hp ho hn h hq _ (fun j => by
    have e := emb_cW p o n h hq hx j
    have e' := emb_cW p' o n h' hq hx j
    rw [cC_last m c i hi _ _ (e.1.trans hp) (e'.1.trans hp') (e.2.trans e'.2.symm)]; rfl) fd

end Payload

/-! ## The copies issued, over the windows the kernel names -/

section Issue
variable (K : Dev nD × Fin 33 → ℕ) (c : Dev nD)

/-- A copy of the first eight: rows `[o, o + 256)` of the staged block to the same rows of plane `p` on the target. -/
theorem wp_send_first (i : Fin 16) (hi : i.val < 8) {c' : Dev nD} (hc : c' = tgt c i) (W : Waits sig Unit) {n n' : ℕ} (hn : n = 16 - i.val) (hn' : n' = 15 - i.val)
    {p o : ℕ} (hp : p = pl i) (ho : o = lo i) {hx : ∀ a, (![o, 0] : Fin 2 → ℕ) a + S256x4096.size a ≤ S1024x4096.size a}
    {hw : ∀ a, (![p, o, 0] : Fin 3 → ℕ) a + S1x256x4096.size a ≤ S3x1024x4096.size a} {hq : S1x256x4096.Squeezes S256x4096} {hx' hw'}
    {hsc} {sS sR : DmaSem sig} (hS : sS = sendS i) (hR : sR = recvS i) {hsrc hdst hsem}
    {k : PUnit → Prog (TpuEff nD τ sig (Elt F) Λ₀ .tc) PUnit} {Q : PUnit → sProp 𝕄} :
    iprop(records m K ∗ srcPts m c i ∗ dstPts c i ∗ owes (c : Thread nD τ) (rem c n) W ∗ SendTok c i)
      ⊢ iprop(((Sent c i ∗ owes (c : Thread nD τ) (rem c n') W) -∗ wpB c (k ⟨⟩) Q)
          -∗ wpB c (.op (.enqueueDma (xM.slice (Rect.unit (s := S1024x4096) ![o, 0] S256x4096.size hx) hx') (.remote (Dev.tc c' : Thread nD τ)
              ((cM.slice (Rect.unit (s := S3x1024x4096) ![p, o, 0] S1x256x4096.size hw) hw').squeeze S256x4096 hq) (.dma sS) hsc) (.dma sR) hsrc hdst hsem) k) Q) := by
  subst hn hn'
  exact wp_send m K c i c' hc W hS hR
    (show _ = amt i by unfold amt; rw [if_pos hi])
    (srcPts_first m c i hi ho (by unfold nr; rw [if_pos hi]) hx) (dstPts_eq c i hp ho (by unfold nr; rw [if_pos hi]) hw hq)
    (land_first m c i hi hp ho (by unfold nr; rw [if_pos hi]) hw hq hx)

/-- A copy of the last eight: rows `[o, o + 128)` of the plane `p'` on the sender to the same rows of plane `p` on the target. -/
theorem wp_send_last (i : Fin 16) (hi : 8 ≤ i.val) {c' : Dev nD} (hc : c' = tgt c i) (W : Waits sig Unit) {n n' : ℕ} (hn : n = 16 - i.val) (hn' : n' = 15 - i.val)
    {p p' o : ℕ} (hp : p = pl i) (hp' : p' = pl i - 2 + (if goesLeft i then 0 else 1)) (ho : o = lo i)
    {hw : ∀ a, (![p, o, 0] : Fin 3 → ℕ) a + S1x128x4096.size a ≤ S3x1024x4096.size a} {hv : ∀ a, (![p', o, 0] : Fin 3 → ℕ) a + S1x128x4096.size a ≤ S3x1024x4096.size a}
    {hq : S1x128x4096.Squeezes S128x4096} {hw' hv'}
    {hsc} {sS sR : DmaSem sig} (hS : sS = sendS i) (hR : sR = recvS i) {hsrc hdst hsem}
    {k : PUnit → Prog (TpuEff nD τ sig (Elt F) Λ₀ .tc) PUnit} {Q : PUnit → sProp 𝕄} :
    iprop(records m K ∗ srcPts m c i ∗ dstPts c i ∗ owes (c : Thread nD τ) (rem c n) W ∗ SendTok c i)
      ⊢ iprop(((Sent c i ∗ owes (c : Thread nD τ) (rem c n') W) -∗ wpB c (k ⟨⟩) Q)
          -∗ wpB c (.op (.enqueueDma ((cM.slice (Rect.unit (s := S3x1024x4096) ![p', o, 0] S1x128x4096.size hv) hv').squeeze S128x4096 hq) (.remote (Dev.tc c' : Thread nD τ)
              ((cM.slice (Rect.unit (s := S3x1024x4096) ![p, o, 0] S1x128x4096.size hw) hw').squeeze S128x4096 hq) (.dma sS) hsc) (.dma sR) hsrc hdst hsem) k) Q) := by
  subst hn hn'
  have hr : 128 = nr i := by unfold nr; rw [if_neg (by omega)]
  exact wp_send m K c i c' hc W hS hR
    (show _ = amt i by unfold amt; rw [if_neg (by omega)])
    (srcPts_last m c i (by omega) hp' ho hr hv hq) (dstPts_eq c i hp ho hr hw hq)
    (land_last m c i hi hp hp' ho hr hw hq hv (by rw [ho, hr]; exact inbX i))

end Issue

end Cert.Gather

end
-- ==== Proof.BodyEntry.lean ====
/-
The kernel body's first parts: the entry barrier and the copies of the device's own block to both neighbours.
-/
module

public import proofs.«01_k».proof.Proof.Copies

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A part of the kernel body, over the buffers and semaphores it is called with. -/
abbrev onBufs {α : Type 1} (f : (arg0 : Memref sig .tc .vmem S1024x4096 .fp8e5m2) → arg0.IsWhole → (arg1 : Memref sig .tc .hbm S4096x2048 .f32) → arg1.IsWhole →
      (arg2 : Memref sig .tc .smem S1 .f32) → arg2.IsWhole → (arg3 : Memref sig .tc .smem S1 .f32) → arg3.IsWhole →
      (arg4 : Memref sig .tc .hbm S4096x2048 .f32) → arg4.IsWhole → (arg5 : Memref sig .tc .vmem S3x1024x4096 .fp8e5m2) → arg5.IsWhole →
      (arg6 : Memref sig .tc .vmem S4096x2048 .fp8e5m2) → arg6.IsWhole → (arg7 : Memref sig .tc .vmem S2x1024x2048 .f32) → arg7.IsWhole →
      (arg8 : Memref sig .tc .vmem S1024x2048 .f32) → arg8.IsWhole → (arg9 : Memref sig .tc .vmem S2x512x2048 .f32) → arg9.IsWhole →
      DmaSems sig S16 → DmaSems sig S16 → DmaSems sig S2 → DmaSems sig S3 → α) : α :=
  f (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_v1) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

omit [FloatOps F] in
/-- The pieces the right neighbour's signal hands over, one by one: those the copies to the left write. -/
theorem barPay_true (c : Dev nD) : (barPay (F := F) c true) ⊢ iprop(dstPts c 0 ∗ dstPts c 1 ∗ dstPts c 2 ∗ dstPts c 3 ∗ dstPts c 8 ∗ dstPts c 9 ∗ dstPts c 10 ∗ dstPts c 11) := by
  unfold barPay
  rw [bigSep_eq_bigSepL_of_eq [0, 1, 2, 3, 8, 9, 10, 11] (by decide) (by decide)]
  simp only [bigSepL_cons_cons, bigSepL_singleton]
  exact Entails.refl _
omit [FloatOps F] in
/-- The same of the copies to the right. -/
theorem barPay_false (c : Dev nD) : (barPay (F := F) c false) ⊢ iprop(dstPts c 4 ∗ dstPts c 5 ∗ dstPts c 6 ∗ dstPts c 7 ∗ dstPts c 12 ∗ dstPts c 13 ∗ dstPts c 14 ∗ dstPts c 15) := by
  unfold barPay
  rw [bigSep_eq_bigSepL_of_eq [4, 5, 6, 7, 12, 13, 14, 15] (by decide) (by decide)]
  simp only [bigSepL_cons_cons, bigSepL_singleton]
  exact Entails.refl _

section Part1
variable (K : Dev nD × Fin 33 → ℕ) (c : Dev nD)

set_option maxHeartbeats 800000 in
/-- The entry: the barrier with both neighbours and the first copy. -/
theorem wp_part1 (W : Waits sig Unit) {k : _ → Prog (TpuEff nD τ sig (Elt F) Λ₀ .tc) PUnit} {Q : PUnit → sProp 𝕄} :
    iprop(records m K ∗ levAts L lv ∗ owes (c : Thread nD τ) (O₀ c) W ∗ BarTok c ∗ dutyTok ER (barCell (lft c)) 0 false ∗ dutyTok ER (barCell (rgt c)) 0 true
        ∗ barPay (lft c) false ∗ barPay (rgt c) true ∗ srcPts m c 0 ∗ SendTok c 0)
      ⊢ iprop((∀ W' v2 v4 v6 v8, (owes (c : Thread nD τ) (rem c 15) W' ∗ semVal (barCell c) 0 ∗ Sent c 0
            ∗ (dstPts c 1 ∗ dstPts c 2 ∗ dstPts c 3 ∗ dstPts c 8 ∗ dstPts c 9 ∗ dstPts c 10 ∗ dstPts c 11)
            ∗ (dstPts c 4 ∗ dstPts c 5 ∗ dstPts c 6 ∗ dstPts c 7 ∗ dstPts c 12 ∗ dstPts c 13 ∗ dstPts c 14 ∗ dstPts c 15)) -∗ wpB c (k ⟨c, v2, v4, v6, v8⟩) Q)
          -∗ wpB c (onBufs (k0_part1 (F := F)) >>= k) Q) := by
  unfold onBufs
  rw [k0_part1_eq_skeleton]
  unfold k0_part1_skel
  simp only [semSignalWord, semWaitWord, Prog.lift, Prog.bind_op, Prog.bind_ret, Prog.pure_eq_ret, wp_deviceId]
  iintro ⟨#HR, #Hlev, HO, HB, Htl, Htr, HPl, HPr, S0, T0⟩ Hk
  iapply (wp_bar_signal m K c (lft c) (Fin.ext (k0_dev1_eq c)) false (O₁ c) W (by decide)) $$ [HO Htl HPl]
  · isplitr; · iexact HR
    isplitl [HO]; · iexact HO
    isplitl [Htl] <;> iassumption
  iintro HO
  iapply (wp_bar_signal m K c (rgt c) (Fin.ext (k0_dev2_eq c)) true (rem c 16) W (by decide)) $$ [HO Htr HPr]
  · isplitr; · iexact HR
    isplitl [HO]; · iexact HO
    isplitl [Htr] <;> iassumption
  iintro HO
  iapply (wp_bar_wait m K c W (by decide)) $$ [HO HB]
  · isplitr; · iexact HR
    isplitr; · iexact Hlev
    isplitl [HO] <;> iassumption
  iintro %W1 ⟨HO, HbV, HPf, HPt⟩
  ihave HD := (barPay_true c) $$ HPt
  icases HD with ⟨D0, HDt⟩
  ihave HDf := (barPay_false c) $$ HPf
  iapply (wp_send_first m K c 0 (by decide) (Fin.ext (k0_dev3_eq c)) W1 (n := 16) (n' := 15) (by decide) (by decide) (by decide) (by decide) (by rfl) (by rfl)) $$ [HO S0 D0 T0]
  · isplitr; · iexact HR
    isplitl [S0]; · iexact S0
    isplitl [D0]; · iexact D0
    isplitl [HO] <;> iassumption
  iintro ⟨N0, HO⟩
  ispecialize Hk $$ %W1
  iapply Hk
  isplitl [HO]; · iexact HO
  isplitl [HbV]; · iexact HbV
  isplitl [N0]; · iexact N0
  isplitl [HDt] <;> iassumption

set_option maxHeartbeats 1600000 in
/-- The other copies of this device's own block, up to the last. -/
theorem wp_part2 (W : Waits sig Unit) (v4 v6 : BitVec 32) {k : _ → Prog (TpuEff nD τ sig (Elt F) Λ₀ .tc) PUnit} {Q : PUnit → sProp 𝕄} :
    iprop(records m K ∗ owes (c : Thread nD τ) (rem c 15) W
        ∗ (srcPts m c 1 ∗ srcPts m c 2 ∗ srcPts m c 3 ∗ srcPts m c 4 ∗ srcPts m c 5 ∗ srcPts m c 6)
        ∗ (dstPts c 1 ∗ dstPts c 2 ∗ dstPts c 3 ∗ dstPts c 4 ∗ dstPts c 5 ∗ dstPts c 6)
        ∗ (SendTok c 1 ∗ SendTok c 2 ∗ SendTok c 3 ∗ SendTok c 4 ∗ SendTok c 5 ∗ SendTok c 6))
      ⊢ iprop((owes (c : Thread nD τ) (rem c 9) W ∗ Sent c 1 ∗ Sent c 2 ∗ Sent c 3 ∗ Sent c 4 ∗ Sent c 5 ∗ Sent c 6 -∗ wpB c (k ⟨⟩) Q)
          -∗ wpB c (onBufs (k0_part2 (F := F)) c v4 v6 >>= fun _ => onBufs (k0_part3 (F := F)) c v6 >>= k) Q) := by
  unfold onBufs
  rw [k0_part2_eq_skeleton, k0_part3_eq_skeleton]
  unfold k0_part2_skel k0_part3_skel
  simp only [Prog.lift, Prog.bind_op, Prog.bind_ret, Prog.pure_eq_ret]
  iintro ⟨#HR, HO, ⟨S1, S2, S3, S4, S5, S6⟩, ⟨D1, D2, D3, D4, D5, D6⟩, T1, T2, T3, T4, T5, T6⟩ Hk
  iapply (wp_send_first m K c 1 (by decide) (Fin.ext (k0_dev4_eq c)) W (n := 15) (n' := 14) (by decide) (by decide) (by decide) (by decide) (by rfl) (by rfl)) $$ [HO S1 D1 T1]
  · isplitr; · iexact HR
    isplitl [S1]; · iexact S1
    isplitl [D1]; · iexact D1
    isplitl [HO] <;> iassumption
  iintro ⟨N1, HO⟩
  iapply (wp_send_first m K c 2 (by decide) (Fin.ext (k0_dev5_eq c)) W (n := 14) (n' := 13) (by decide) (by decide) (by decide) (by decide) (by rfl) (by rfl)) $$ [HO S2 D2 T2]
  · isplitr; · iexact HR
    isplitl [S2]; · iexact S2
    isplitl [D2]; · iexact D2
    isplitl [HO] <;> iassumption
  iintro ⟨N2, HO⟩
  iapply (wp_send_first m K c 3 (by decide) (Fin.ext (k0_dev6_eq c)) W (n := 13) (n' := 12) (by decide) (by decide) (by decide) (by decide) (by rfl) (by rfl)) $$ [HO S3 D3 T3]
  · isplitr; · iexact HR
    isplitl [S3]; · iexact S3
    isplitl [D3]; · iexact D3
    isplitl [HO] <;> iassumption
  iintro ⟨N3, HO⟩
  iapply (wp_send_first m K c 4 (by decide) (Fin.ext (k0_dev7_eq c)) W (n := 12) (n' := 11) (by decide) (by decide) (by decide) (by decide) (by rfl) (by rfl)) $$ [HO S4 D4 T4]
  · isplitr; · iexact HR
    isplitl [S4]; · iexact S4
    isplitl [D4]; · iexact D4
    isplitl [HO] <;> iassumption
  iintro ⟨N4, HO⟩
  iapply (wp_send_first m K c 5 (by decide) (Fin.ext (k0_dev8_eq c)) W (n := 11) (n' := 10) (by decide) (by decide) (by decide) (by decide) (by rfl) (by rfl)) $$ [HO S5 D5 T5]
  · isplitr; · iexact HR
    isplitl [S5]; · iexact S5
    isplitl [D5]; · iexact D5
    isplitl [HO] <;> iassumption
  iintro ⟨N5, HO⟩
  iapply (wp_send_first m K c 6 (by decide) (Fin.ext (k0_dev9_eq c)) W (n := 10) (n' := 9) (by decide) (by decide) (by decide) (by decide) (by rfl) (by rfl)) $$ [HO S6 D6 T6]
  · isplitr; · iexact HR
    isplitl [S6]; · iexact S6
    isplitl [D6]; · iexact D6
    isplitl [HO] <;> iassumption
  iintro ⟨N6, HO⟩
  iapply Hk
  isplitl [HO]; · iexact HO
  isplitl [N1]; · iexact N1
  isplitl [N2]; · iexact N2
  isplitl [N3]; · iexact N3
  isplitl [N4]; · iexact N4
  isplitl [N5] <;> iassumption

end Part1

end Cert.Gather

end
-- ==== Proof.BodyOwn.lean ====
/-
The device's own rows of the result.
-/
module

public import proofs.«01_k».proof.Proof.BodyEntry
public import Idealize.ShloMosaic.Lib.Pipeline.FrameBody

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The window of the result that receives the device's own rows. -/
abbrev ownW (c : Dev nD) : Memref sig .tc .hbm S1024x2048 .f32 :=
  (Memref.whole main_v1).slice (Rect.unit (s := S4096x2048) (k0_off1 c) S1024x2048.size (k0_off1_inb c)) (fun _ => rfl)

/-- The two slots the weights are staged through. -/
abbrev wst0 : Memref sig .tc .vmem S1024x2048 .f32 :=
  ((Memref.whole cc0_scratch2).slice (Rect.unit (s := S2x1024x2048) ![0, 0, 0] S1x1024x2048.size inb_S2x1024x2048_S1x1024x2048_0_0_0) (fun _ => rfl)).squeeze S1024x2048 squeezes_S1x1024x2048_S1024x2048
/-- The second slot. -/
abbrev wst1 : Memref sig .tc .vmem S1024x2048 .f32 :=
  ((Memref.whole cc0_scratch2).slice (Rect.unit (s := S2x1024x2048) ![1, 0, 0] S1x1024x2048.size inb_S2x1024x2048_S1x1024x2048_1_0_0) (fun _ => rfl)).squeeze S1024x2048 squeezes_S1x1024x2048_S1024x2048

/-- A value read at the places of a rectangle. -/
abbrev cut {s : Shape} {α : Type} (r : Rect s) (f : s.Idx → α) : r.shape.Idx → α := fun i => f (r.emb i)

/-- The weights rounded to the operands' type. -/
def w8C (fW : S4096x2048.Idx → Elt F .f32) : S4096x2048.Idx → Elt F .fp8e5m2 :=
  truncf .fp8e5m2 (fW : FVec F S4096x2048 .f32) bitsLt_fp8e5m2_f32

/-- The one place of a one-element array. -/
def zero1 : S1.Idx := fun a => ⟨0, by revert a; decide⟩

/-- The product of the two scales. -/
def sc (fA fB : S1.Idx → Elt F .f32) : F .f32 := k0_pay1 (fA zero1) (fB zero1)

omit [FloatOps F] in
/-- A one-element array has one place. -/
theorem one_place (i j : S1.Idx) : i = j := by
  funext a; fin_cases a; exact Subsingleton.elim (α := Fin 1) _ _

/-- The two scales read and multiplied. -/
theorem scale_read (fA fB : S1.Idx → Elt F .f32) (h : 0 < (Rect.unit (s := S1) ![0] S1.size inb_S1_S1_0).shape.numel) :
    k0_pay1 (View.readAt (Elt F) (Memref.whole cc0_stg1_0).view (Rect.unit (s := S1) ![0] S1.size inb_S1_S1_0).toLoadRect fA (Shape.Idx.first h))
      (View.readAt (Elt F) (Memref.whole cc0_stg2_0).view (Rect.unit (s := S1) ![0] S1.size inb_S1_S1_0).toLoadRect fB (Shape.Idx.first h)) = sc fA fB :=
  congr (congrArg k0_pay1 (congrArg fA (one_place _ _))) (congrArg fB (one_place _ _))

/-- Four of the rows of the weights' buffer at a time. -/
abbrev wRows0 : Rect S4096x2048 := Rect.unit (s := S4096x2048) ![0, 0] S1024x2048.size inb_S4096x2048_S1024x2048_0_0
/-- The second quarter of the rows. -/
abbrev wRows1 : Rect S4096x2048 := Rect.unit (s := S4096x2048) ![1024, 0] S1024x2048.size inb_S4096x2048_S1024x2048_1024_0
/-- The third quarter of the rows. -/
abbrev wRows2 : Rect S4096x2048 := Rect.unit (s := S4096x2048) ![2048, 0] S1024x2048.size inb_S4096x2048_S1024x2048_2048_0
/-- The last quarter of the rows. -/
abbrev wRows3 : Rect S4096x2048 := Rect.unit (s := S4096x2048) ![3072, 0] S1024x2048.size inb_S4096x2048_S1024x2048_3072_0
/-- The first quarter of the columns of the staged block of `x`. -/
abbrev xCols0 : Rect S1024x4096 := Rect.unit (s := S1024x4096) ![0, 0] S1024x1024.size inb_S1024x4096_S1024x1024_0_0
/-- The second quarter of the columns. -/
abbrev xCols1 : Rect S1024x4096 := Rect.unit (s := S1024x4096) ![0, 1024] S1024x1024.size inb_S1024x4096_S1024x1024_0_1024
/-- The third quarter of the columns. -/
abbrev xCols2 : Rect S1024x4096 := Rect.unit (s := S1024x4096) ![0, 2048] S1024x1024.size inb_S1024x4096_S1024x1024_0_2048
/-- The last quarter of the columns. -/
abbrev xCols3 : Rect S1024x4096 := Rect.unit (s := S1024x4096) ![0, 3072] S1024x1024.size inb_S1024x4096_S1024x1024_0_3072

/-- The device's own rows of the result: four partial products added up, then scaled. -/
def ownVal (s : F .f32) (X : S1024x4096.Idx → Elt F .fp8e5m2) (w : S4096x2048.Idx → Elt F .fp8e5m2) : S1024x2048.Idx → Elt F .f32 :=
  k0_pay10 s (cut xCols3 X) (cut wRows3 w) (k0_pay8 (k0_pay7 (cut xCols2 X) (cut wRows2 w)
    (k0_pay5 (cut xCols1 X) (cut wRows1 w) (k0_pay3 (cut xCols0 X) (cut wRows0 w)))))

/-- A cast to the same shape changes nothing. -/
theorem cast_same {s : Shape} {α : Type} (v : s.Idx → α) (h : s.ShapeCasts s) : shapeCast s v h = v :=
  funext fun i => congrArg v (Shape.reshapeEquiv_self h i)

omit [FloatOps F] in
/-- A view read after a write of the whole of it. -/
theorem read_head {κ : Kind} {sp : Space} {s : Shape} {e : EltTy} (v : View sig κ sp s e) (f : v.ty.Contents (Elt F)) (w : s.Idx → Elt F e)
    (l : List (View.Piece (Elt F) s e)) (y : s.Idx) : v.read (Elt F) (v.writes (Elt F) f (⟨Rect.whole s, w⟩ :: l)) y = w y := by
  have := View.read_writes_cons_emb (f := f) (v := v) (Rect.whole s) w l y
  rwa [Rect.emb_whole_apply] at this

/-- What a slot of the staging buffer reads after a copy into it, reshaped to the block. -/
theorem stage_read0 (v : S1024x2048.Idx → Elt F .f32) (f : S2x1024x2048.Idx → Elt F .f32) (l : List (View.Piece (Elt F) S1024x2048 .f32)) :
    k0_pay2 ((Memref.whole cc0_scratch2).view.readAt (Elt F) (Rect.unit (s := S2x1024x2048) ![0, 0, 0] S1x1024x2048.size inb_S2x1024x2048_S1x1024x2048_0_0_0).toLoadRect
      (wst0.view.writes (Elt F) f (⟨Rect.whole S1024x2048, v⟩ :: l))) = truncf .fp8e5m2 (v : FVec F S1024x2048 .f32) bitsLt_fp8e5m2_f32 := by
  have e : shapeCast S1024x2048 ((Memref.whole cc0_scratch2).view.readAt (Elt F) (Rect.unit (s := S2x1024x2048) ![0, 0, 0] S1x1024x2048.size inb_S2x1024x2048_S1x1024x2048_0_0_0).toLoadRect
      (wst0.view.writes (Elt F) f (⟨Rect.whole S1024x2048, v⟩ :: l))) shapeCasts_S1x1024x2048_S1024x2048 = wst0.view.read (Elt F) (wst0.view.writes (Elt F) f (⟨Rect.whole S1024x2048, v⟩ :: l)) := rfl
  unfold k0_pay2
  dsimp only
  rw [cast_same, e]
  refine congrArg (fun z : FVec F S1024x2048 .f32 => truncf .fp8e5m2 z bitsLt_fp8e5m2_f32) (funext fun y => ?_)
  exact read_head wst0.view f v l y

/-- The same of the other slot. -/
theorem stage_read1 (v : S1024x2048.Idx → Elt F .f32) (f : S2x1024x2048.Idx → Elt F .f32) (l : List (View.Piece (Elt F) S1024x2048 .f32)) :
    k0_pay2 ((Memref.whole cc0_scratch2).view.readAt (Elt F) (Rect.unit (s := S2x1024x2048) ![1, 0, 0] S1x1024x2048.size inb_S2x1024x2048_S1x1024x2048_1_0_0).toLoadRect
      (wst1.view.writes (Elt F) f (⟨Rect.whole S1024x2048, v⟩ :: l))) = truncf .fp8e5m2 (v : FVec F S1024x2048 .f32) bitsLt_fp8e5m2_f32 := by
  have e : shapeCast S1024x2048 ((Memref.whole cc0_scratch2).view.readAt (Elt F) (Rect.unit (s := S2x1024x2048) ![1, 0, 0] S1x1024x2048.size inb_S2x1024x2048_S1x1024x2048_1_0_0).toLoadRect
      (wst1.view.writes (Elt F) f (⟨Rect.whole S1024x2048, v⟩ :: l))) shapeCasts_S1x1024x2048_S1024x2048 = wst1.view.read (Elt F) (wst1.view.writes (Elt F) f (⟨Rect.whole S1024x2048, v⟩ :: l)) := rfl
  unfold k0_pay2
  dsimp only
  rw [cast_same, e]
  refine congrArg (fun z : FVec F S1024x2048 .f32 => truncf .fp8e5m2 z bitsLt_fp8e5m2_f32) (funext fun y => ?_)
  exact read_head wst1.view f v l y

omit [FloatOps F] in
/-- The whole buffer read after a store to all of it. -/
theorem own_head (f : S1024x2048.Idx → Elt F .f32) (v : S1024x2048.Idx → Elt F .f32) (l : List (View.Piece (Elt F) S1024x2048 .f32)) :
    ReadAs.same.apply (View.read (Elt F) (Memref.whole cc0_scratch3).view ((Memref.whole cc0_scratch3).view.writes (Elt F) f
      (⟨Rect.unit (s := S1024x2048) ![0, 0] S1024x2048.size inb_S1024x2048_S1024x2048_0_0, v⟩ :: l))) = v := by
  funext y
  have hy : (Rect.unit (s := S1024x2048) ![0, 0] S1024x2048.size inb_S1024x2048_S1024x2048_0_0).emb y = y := by
    funext a; apply Fin.ext
    show (![0, 0] : Fin 2 → ℕ) a + 1 * (y a : ℕ) = y a
    have : (![0, 0] : Fin 2 → ℕ) a = 0 := by revert a; decide
    omega
  have := View.read_writes_cons_emb (f := f) (v := (Memref.whole cc0_scratch3).view) (Rect.unit (s := S1024x2048) ![0, 0] S1024x2048.size inb_S1024x2048_S1024x2048_0_0) v l y
  rw [hy] at this
  exact this

omit [FloatOps F] in
/-- Four blocks of 1024 rows cover the weights. -/
theorem wRows_cover (y : S4096x2048.Idx) : y ∈ wRows3.set ∨ y ∈ wRows2.set ∨ y ∈ wRows1.set ∨ y ∈ wRows0.set := by
  have h0 : (y 0 : ℕ) < 4096 := (y 0).isLt
  have h1 : (y 1 : ℕ) < 2048 := (y 1).isLt
  simp only [wRows0, wRows1, wRows2, wRows3, Rect.mem_set_unit, Fin.forall_fin_two]
  simp
  omega

/-- The weights' buffer once its four blocks of rows are stored. -/
theorem writes_w8 (g : S4096x2048.Idx → Elt F .fp8e5m2) (G : S4096x2048.Idx → Elt F .fp8e5m2) :
    (Memref.whole cc0_scratch1).view.writes (Elt F) g [⟨wRows3, cut wRows3 G⟩, ⟨wRows2, cut wRows2 G⟩, ⟨wRows1, cut wRows1 G⟩, ⟨wRows0, cut wRows0 G⟩] = G := by
  have h : View.read (Elt F) (Memref.whole cc0_scratch1).view ((Memref.whole cc0_scratch1).view.writes (Elt F) g
      [⟨wRows3, cut wRows3 G⟩, ⟨wRows2, cut wRows2 G⟩, ⟨wRows1, cut wRows1 G⟩, ⟨wRows0, cut wRows0 G⟩]) = G := by
    funext y
    refine View.read_writes_apply_of_pieces (v := (Memref.whole cc0_scratch1).view) (f := g) G _ ?_ y ?_
    · intro p hp x
      simp only [List.mem_cons, List.not_mem_nil, or_false] at hp
      obtain h | h | h | h := hp <;> (subst h; exact rfl)
    · rcases wRows_cover y with h | h | h | h
      · exact ⟨_, List.mem_cons_self, h⟩
      · exact ⟨_, List.mem_cons_of_mem _ List.mem_cons_self, h⟩
      · exact ⟨_, List.mem_cons_of_mem _ (List.mem_cons_of_mem _ List.mem_cons_self), h⟩
      · exact ⟨_, List.mem_cons_of_mem _ (List.mem_cons_of_mem _ (List.mem_cons_of_mem _ List.mem_cons_self)), h⟩
  exact (View.read_whole (Val := Elt F) _ _).symm.trans h

/-- The copy of the own rows to the result while it is in flight: the rows it will have written, and the buffer it reads. -/
def OwnFlight (c : Dev nD) (v : S1024x2048.Idx → Elt F .f32) (gO : S4096x2048.Idx → Elt F .f32) (g3 : S1024x2048.Idx → Elt F .f32) : sProp 𝕄 :=
  iprop((Transfers.Flight countersEmb (c : Thread nD τ) (SemLoc.dma (39 : DmaSem sig)) default 262144
      iprop(((ownW c).view.loc (c : Thread nD τ) ↦[(ownW c).view.set]{fullShare} (ownW c).view.writes (Elt F) gO [⟨Rect.whole S1024x2048, v⟩])
        ∗ ((Memref.whole cc0_scratch3).view.loc (c : Thread nD τ) ↦[(Memref.whole cc0_scratch3).view.set]{fullShare} g3)))
    ∗ ((Memref.whole cc0_scratch3).view.loc (c : Thread nD τ) ↦[Finset.univ \ (Memref.whole cc0_scratch3).view.set]{fullShare} g3))

section Part4
variable (K : Dev nD × Fin 33 → ℕ) (c : Dev nD)

set_option pp.maxSteps 16000
set_option pp.deepTerms false
set_option pp.deepTerms.threshold 8
set_option maxHeartbeats 4000000 in
/-- The last copy of the device's own block, the weights staged and rounded, the device's own rows of the result. -/
theorem wp_part4 (W : Waits sig Unit) (v2 : BitVec 32) (fA fB : S1.Idx → Elt F .f32) (fW : S4096x2048.Idx → Elt F .f32) (g1 : S4096x2048.Idx → Elt F .fp8e5m2) (g2 : S2x1024x2048.Idx → Elt F .f32)
    (g3 : S1024x2048.Idx → Elt F .f32) (gO : S4096x2048.Idx → Elt F .f32)
    {k : _ → Prog (TpuEff nD τ sig (Elt F) Λ₀ .tc) PUnit} {Q : PUnit → sProp 𝕄} :
    iprop(records m K ∗ levAts L lv ∗ owes (c : Thread nD τ) (rem c 9) W ∗ SendTok c 7 ∗ srcPts m c 7 ∗ dstPts c 7
        ∗ ((Memref.whole cc0_stg0_0).view.loc (c : Thread nD τ) ↦[Finset.univ]{fullShare.left} xC m c)
        ∗ ((Memref.whole cc0_stg1_0).view.loc (c : Thread nD τ) ↦[Finset.univ]{fullShare} fA) ∗ ((Memref.whole cc0_stg2_0).view.loc (c : Thread nD τ) ↦[Finset.univ]{fullShare} fB)
        ∗ ((Memref.whole main_arg1).view.loc (c : Thread nD τ) ↦[Finset.univ]{fullShare} fW)
        ∗ ((Memref.whole cc0_scratch1).view.loc (c : Thread nD τ) ↦[Finset.univ]{fullShare} g1) ∗ ((wst0).view.loc (c : Thread nD τ) ↦[(wst0).view.set]{fullShare} g2) ∗ ((wst1).view.loc (c : Thread nD τ) ↦[(wst1).view.set]{fullShare} g2)
        ∗ ((Memref.whole cc0_scratch3).view.loc (c : Thread nD τ) ↦[Finset.univ]{fullShare} g3)
        ∗ ((ownW c).view.loc (c : Thread nD τ) ↦[(ownW c).view.set]{fullShare} gO)
        ∗ semVal ((c : Thread nD τ), .dma (35 : DmaSem sig)) 0 ∗ semVal ((c : Thread nD τ), .dma (36 : DmaSem sig)) 0 ∗ semVal ((c : Thread nD τ), .dma (39 : DmaSem sig)) 0
      ∗ (∀ (W' : Waits sig Unit) (g2a g2b : S2x1024x2048.Idx → Elt F .f32) (g3' : S1024x2048.Idx → Elt F .f32),
          (owes (c : Thread nD τ) (rem c 8) W' ∗ Sent c 7
            ∗ ((Memref.whole cc0_stg0_0).view.loc (c : Thread nD τ) ↦[Finset.univ]{fullShare.left} xC m c)
            ∗ ((Memref.whole cc0_stg1_0).view.loc (c : Thread nD τ) ↦[Finset.univ]{fullShare} fA) ∗ ((Memref.whole cc0_stg2_0).view.loc (c : Thread nD τ) ↦[Finset.univ]{fullShare} fB)
            ∗ ((Memref.whole main_arg1).view.loc (c : Thread nD τ) ↦[Finset.univ]{fullShare} fW)
            ∗ ((Memref.whole cc0_scratch1).view.loc (c : Thread nD τ) ↦[Finset.univ]{fullShare} w8C fW) ∗ ((wst0).view.loc (c : Thread nD τ) ↦[(wst0).view.set]{fullShare} g2a) ∗ ((wst1).view.loc (c : Thread nD τ) ↦[(wst1).view.set]{fullShare} g2b)
            ∗ semVal ((c : Thread nD τ), .dma (35 : DmaSem sig)) 0 ∗ semVal ((c : Thread nD τ), .dma (36 : DmaSem sig)) 0
            ∗ OwnFlight c (ownVal (sc fA fB) (xC m c) (w8C fW)) gO g3')
          -∗ wpB c (k (sc fA fB)) Q))
      ⊢ wpB c (onBufs (k0_part4 (F := F)) c >>= fun v88 => onBufs (k0_part5 (F := F)) >>= fun _ => onBufs (k0_part6 (F := F)) >>= fun v163 => onBufs (k0_part7 (F := F)) c v2 v88 v163 >>= fun _ => k v88) Q := by
  unfold onBufs
  rw [k0_part4_eq_skeleton, k0_part5_eq_skeleton, k0_part6_eq_skeleton, k0_part7_eq_skeleton]
  unfold k0_part4_skel k0_part5_skel k0_part6_skel k0_part7_skel
  conv => enter [2]; simp only [smemLoad, smemLoadElt, Prog.lift, Prog.bind_op, Prog.bind_ret, Prog.pure_eq_ret]
  iintro ⟨#HR, #Hlev, HO, T7, S7, D7, HX, HA, HB, HW, H1, H2, H2', H3, HOut, V35, V36, V39, Hk⟩
  iapply (wp_send_first m K c 7 (by decide) (Fin.ext (k0_dev10_eq c)) W (n := 9) (n' := 8) (by decide) (by decide) (by decide) (by decide) (by rfl) (by rfl)) $$ [HO S7 D7 T7]
  · isplitr; · iexact HR
    isplitl [S7]; · iexact S7
    isplitl [D7]; · iexact D7
    isplitl [HO] <;> iassumption
  iintro ⟨N7, HO⟩
  have hmw35 := mayWait (F := F) c (.dma (35 : DmaSem sig)) (rem c 8) (Above.mono (Above.rem8 c 8 le_rfl) (by decide))
  have hmw36 := mayWait (F := F) c (.dma (36 : DmaSem sig)) (rem c 8) (Above.mono (Above.rem8 c 8 le_rfl) (by decide))
  unfold wpB
  sl_exec
  have d0 : k0_pay2 (wp_part4.sl.x fW) = cut wRows0 (w8C fW) := stage_read0 _ _ _
  have d1 : k0_pay4 (wp_part4.sl.x_2 fW) = cut wRows1 (w8C fW) := stage_read1 _ _ _
  have d2 : k0_pay6 (wp_part4.sl.x_5 fW) = cut wRows2 (w8C fW) := stage_read0 _ _ _
  have d3 : k0_pay9 (wp_part4.sl.x_8 fW) = cut wRows3 (w8C fW) := stage_read1 _ _ _
  have e1 : (Memref.whole cc0_scratch1).view.writes (Elt F) g1 (wp_part4.sl.H1_4 fW) = w8C fW := by
    unfold wp_part4.sl.H1_4 wp_part4.sl.H1_3 wp_part4.sl.H1_2 wp_part4.sl.H1_1
    rw [d0, d1, d2, d3]
    exact writes_w8 g1 (w8C fW)
  have c0 : wp_part4.sl.x_1 fW = cut wRows0 (w8C fW) := (View.readCov_cons_toLoadRect (Val := Elt F) ..).trans d0
  have c1 : wp_part4.sl.x_3 fW = cut wRows1 (w8C fW) := (View.readCov_cons_toLoadRect (Val := Elt F) ..).trans d1
  have c2 : wp_part4.sl.x_6 fW = cut wRows2 (w8C fW) := (View.readCov_cons_toLoadRect (Val := Elt F) ..).trans d2
  have c3 : wp_part4.sl.x_9 fW = cut wRows3 (w8C fW) := (View.readCov_cons_toLoadRect (Val := Elt F) ..).trans d3
  have a0 : wp_part4.sl.x_4 m c fW = k0_pay3 (cut xCols0 (xC m c)) (cut wRows0 (w8C fW)) := by
    refine (View.readCov_cons_toLoadRect (Val := Elt F) ..).trans ?_
    rw [c0]; exact rfl
  have a1 : wp_part4.sl.x_7 m c fW = k0_pay5 (cut xCols1 (xC m c)) (cut wRows1 (w8C fW)) (k0_pay3 (cut xCols0 (xC m c)) (cut wRows0 (w8C fW))) := by
    refine (View.readCov_cons_toLoadRect (Val := Elt F) ..).trans ?_
    rw [c1, a0]; exact rfl
  have a2 : wp_part4.sl.x_10 m c fW = k0_pay8 (k0_pay7 (cut xCols2 (xC m c)) (cut wRows2 (w8C fW)) (k0_pay5 (cut xCols1 (xC m c)) (cut wRows1 (w8C fW)) (k0_pay3 (cut xCols0 (xC m c)) (cut wRows0 (w8C fW))))) := by
    refine (View.readCov_cons_toLoadRect (Val := Elt F) ..).trans ?_
    rw [c2, a1]; exact rfl
  have es := scale_read (F := F) fA fB (by decide)
  have a3 : wp_part4.sl.dma33 m c fA fB fW g3 = ownVal (sc fA fB) (xC m c) (w8C fW) := by
    refine (own_head g3 _ _).trans ?_
    rw [c3, a2]; exact congrArg (fun s : F .f32 => k0_pay10 s (cut xCols3 (xC m c)) (cut wRows3 (w8C fW)) (k0_pay8 (k0_pay7 (cut xCols2 (xC m c)) (cut wRows2 (w8C fW)) (k0_pay5 (cut xCols1 (xC m c)) (cut wRows1 (w8C fW)) (k0_pay3 (cut xCols0 (xC m c)) (cut wRows0 (w8C fW))))))) es
  rw [e1, es]
  iapply Hk
  isplitl [HO]; · iexact HO
  isplitl [N7]; · iexact N7
  isplitl [HX]; · iexact HX
  isplitl [HA]; · iexact HA
  isplitl [HB]; · iexact HB
  isplitl [HW]; · iexact HW
  isplitl [H1]; · iexact H1
  isplitl [H2]; · iexact H2
  isplitl [H2']; · iexact H2'
  isplitl [V35]; · iexact V35
  isplitl [V36]; · iexact V36
  unfold OwnFlight
  rw [← a3]
  isplitl [V39]; · iexact V39
  iexact H3
end Part4

end Cert.Gather

end
-- ==== Proof.Chunk.lean ====
/-
One block of rows of the result from a received block.
-/
module

public import proofs.«01_k».proof.Proof.BodyOwn

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A window of the result that has received its rows. -/
def Done (c : Dev nD) {s : Shape} (out : Memref sig .tc .hbm s .f32) (v : s.Idx → Elt F .f32) : sProp 𝕄 :=
  iprop(∃ g : Buf (Elt F) (out.view.loc (c : Thread nD τ)), (out.view.loc (c : Thread nD τ) ↦[out.view.set]{fullShare} g) ∗ ⌜out.view.read (Elt F) g = v⌝)

/-- A window of the result, whatever it holds. -/
def Blank (c : Dev nD) {s : Shape} (out : Memref sig .tc .hbm s .f32) : sProp 𝕄 :=
  iprop(∃ g : Buf (Elt F) (out.view.loc (c : Thread nD τ)), (out.view.loc (c : Thread nD τ) ↦[out.view.set]{fullShare} g))

/-- The buffer the blocks of rows are sent to the result from. -/
abbrev oM : Memref sig .tc .vmem S2x512x2048 .f32 := Memref.whole cc0_scratch4

/-- Rows of that buffer, whatever they hold. -/
def Slot (c : Dev nD) (A : Finset S2x512x2048.Idx) : sProp 𝕄 :=
  iprop(∃ g : Buf (Elt F) (oM.view.loc (c : Thread nD τ)), (oM.view.loc (c : Thread nD τ) ↦[A]{fullShare} g))

/-- A block of rows on its way to the result. -/
def OutFlight (c : Dev nD) (sem : DmaSem sig) (N : ℕ) {s : Shape} (out : Memref sig .tc .hbm s .f32) (v : s.Idx → Elt F .f32) (A : Finset S2x512x2048.Idx) : sProp 𝕄 :=
  Transfers.Flight countersEmb (c : Thread nD τ) (SemLoc.dma sem) () N iprop(Done c out v ∗ Slot c A)

omit [FloatOps F] in
/-- Of a whole buffer, a set of places is itself. -/
theorem setOn_whole (b : Ref sig .tc) (M : Finset b.ty.shape.Idx) : (Memref.whole b).view.setOn M = M := Finset.map_refl

omit [FloatOps F] in
/-- The slot read back after a store to it. -/
theorem out_read {s : Shape} (ro : Rect S2x512x2048) (hst : ∀ a, ro.stride a = 1) (hq : ro.shape.Squeezes s) (g : S2x512x2048.Idx → Elt F .f32)
    (y : ro.shape.Idx → Elt F .f32) (i : s.Idx) :
    ((oM.slice ro hst).squeeze s hq).view.read (Elt F) ((oM.access ro).write (Elt F) g y Finset.univ) i = y (Shape.reshapeEquiv hq.numel_eq i) :=
  congrFun (View.read_write_univ (v := oM.access ro) g y) (Shape.reshapeEquiv hq.numel_eq i)

section Chunk
variable (c : Dev nD)

/-- One block of rows: the operands loaded, the product stored to a slot, and the slot's copy to the result begun. -/
theorem wp_chunk {s : Shape} {px : Rect S3x1024x4096} {ro : Rect S2x512x2048} {hst : ∀ a, ro.stride a = 1} {hq : ro.shape.Squeezes s}
    {out : Memref sig .tc .hbm s .f32} {sem : DmaSem sig} (N : ℕ) {S : Finset S3x1024x4096.Idx} {q : PosShare TreeShare}
    (w : S4096x2048.Idx → Elt F .fp8e5m2) (v : s.Idx → Elt F .f32)
    {pay : (px.shape.Idx → Elt F .fp8e5m2) → (S4096x2048.Idx → Elt F .fp8e5m2) → (ro.shape.Idx → Elt F .f32)}
    (hN : out.view.amount (.dma sem) = N) (hN0 : 0 < N) (hS : px.set ⊆ S)
    (hv : ∀ i, pay (cut px (cC m c)) w (Shape.reshapeEquiv hq.numel_eq i) = v i)
    {hl1 hl2 hl3 hx hm h1 h2 h3}
    {k : PUnit → Prog (TpuEff nD τ sig (Elt F) Λ₀ .tc) PUnit} {Q : PUnit → sProp 𝕄} :
    iprop((cM.view.loc (c : Thread nD τ) ↦[S]{q} cC m c)
        ∗ ((Memref.whole cc0_scratch1).view.loc (c : Thread nD τ) ↦[Finset.univ]{fullShare} w)
        ∗ Slot c ro.set ∗ Blank c out ∗ semVal ((c : Thread nD τ), .dma sem) 0)
      ⊢ iprop(((cM.view.loc (c : Thread nD τ) ↦[S]{q} cC m c)
          ∗ ((Memref.whole cc0_scratch1).view.loc (c : Thread nD τ) ↦[Finset.univ]{fullShare} w)
          ∗ OutFlight c sem N out v ro.set -∗ wpB c (k ⟨⟩) Q)
        -∗ wpB c (.op (.load cM px.toLoadRect hl1) fun x => .op (.load (Memref.whole cc0_scratch1) (Rect.unit (s := S4096x2048) ![0, 0] S4096x2048.size inb_S4096x2048_S4096x2048_0_0).toLoadRect hl2) fun y =>
            .op (.load oM ro.toLoadRect hl3) fun _ => .op (.store oM ro (pay x y) Finset.univ hx hm) fun _ =>
            .op (.enqueueDma ((oM.slice ro hst).squeeze s hq) (.here out) (.dma sem) h1 h2 h3) k) Q) := by
  have hy : View.readAt (Elt F) (Memref.whole cc0_scratch1).view (Rect.unit (s := S4096x2048) ![0, 0] S4096x2048.size inb_S4096x2048_S4096x2048_0_0).toLoadRect w = w := by
    funext i
    refine congrArg w (funext fun a => Fin.ext ?_)
    show (![0, 0] : Fin 2 → ℕ) a + 1 * (i a : ℕ) = i a
    have : (![0, 0] : Fin 2 → ℕ) a = 0 := by revert a; decide
    omega
  have hset : ((oM.slice ro hst).squeeze s hq).view.set = ro.set := (View.set_reshape _ _).trans (View.set_slice_whole cc0_scratch4 _)
  unfold wpB Slot Blank
  iintro ⟨HX, HW, ⟨%g, HS⟩, ⟨%gO, HO⟩, HV⟩ Hk
  iapply (wp_load 𝒱₀ (c : Thread nD τ) none Set.univ (m := cM) (r := px.toLoadRect) (S := S) ((setOn_whole cc0_scratch0 _).trans_subset hS)) $$ HX
  iintro HX
  iapply (wp_load 𝒱₀ (c : Thread nD τ) none Set.univ (m := Memref.whole cc0_scratch1) (S := Finset.univ) (Finset.subset_univ _)) $$ HW
  iintro HW
  rw [hy]
  iapply (wp_load 𝒱₀ (c : Thread nD τ) none Set.univ (m := oM) (r := ro.toLoadRect) (S := ro.set) (setOn_whole cc0_scratch4 _).subset) $$ HS
  iintro HS
  iapply (wp_store 𝒱₀ (c : Thread nD τ) none Set.univ (m := oM) (r := ro) (Mk := Finset.univ) (S := (ro.set : Finset S2x512x2048.Idx)) (View.set_slice_whole cc0_scratch4 ro).subset) $$ HS
  iintro HS
  iapply (Transfers.wp_dmaLocal countersEmb 𝒱₀ (c : Thread nD τ) none (src := (oM.slice ro hst).squeeze s hq) (dst := out) (Sd := out.view.set) (q := fullShare)
    () N hN hN0 Finset.Subset.rfl) $$ [HS HO HV]
  · isplitl [HS]
    · rw [hset]; iexact HS
    isplitl [HO] <;> iassumption
  iintro HF
  iapply Hk
  isplitl [HX]; · iexact HX
  isplitl [HW]; · iexact HW
  unfold OutFlight
  iapply (Transfers.Flight_mono (EC := countersEmb) (c := (c : Thread nD τ)) ?_) $$ HF
  unfold Done Slot
  iintro ⟨H1, H2⟩
  isplitl [H1]
  · iexists _
    isplitl [H1]; · iexact H1
    ipureintro
    rw [View.read_write_univ]
    funext i
    exact (out_read ro hst hq g _ i).trans (hv i)
  · iexists _
    rw [hset]
    iexact H2

/-- The wait for a block on its way to the result. -/
theorem wp_outwait {sem : DmaSem sig} {N : ℕ} {s : Shape} {out : Memref sig .tc .hbm s .f32} {v : s.Idx → Elt F .f32} {A : Finset S2x512x2048.Idx} (W : Waits sig Unit)
    {sp sp' : Space} {s₁ s₂ : Shape} {e₁ e₂ : EltTy} {src : Memref sig .tc sp' s₁ e₁} {dst : Memref sig .tc sp s₂ e₂}
    {hsrc : src.view.WordExact} {hdst : dst.view.WordExact} (hN : dst.view.dmaCredit = N)
    {k : PUnit → Prog (TpuEff nD τ sig (Elt F) Λ₀ .tc) PUnit} {Q : PUnit → sProp 𝕄} :
    iprop(OutFlight c sem N out v A ∗ owes (c : Thread nD τ) 0 W)
      ⊢ iprop((∀ W', (owes (c : Thread nD τ) 0 W' ∗ semVal ((c : Thread nD τ), .dma sem) 0 ∗ Done c out v ∗ Slot c A) -∗ wpB c (k ⟨⟩) Q)
        -∗ wpB c (.op (.waitDma2 sem src dst hsrc hdst) k) Q) := by
  unfold wpB OutFlight
  iintro ⟨HF, HO⟩ Hk
  iapply (Transfers.wp_waitLocal countersEmb 𝒱₀ (c : Thread nD τ) none () hN) $$ [HF HO]
  · isplitl [HF] <;> iassumption
  iintro ⟨⟨HD, HS⟩, HV, HO⟩
  iapply Hk
  isplitl [HO]; · iexact HO
  isplitl [HV]; · iexact HV
  isplitl [HD] <;> iassumption

omit [FloatOps F] in
/-- Part of the rows of a slot, and the others. -/
theorem slot_part {A B : Finset S2x512x2048.Idx} (h : B ⊆ A) : Slot (F := F) c A ⊢ iprop(Slot c B ∗ Slot c (A \ B)) := by
  unfold Slot
  iintro ⟨%g, H⟩
  ihave H := (pointsTo_split_subset h).1 $$ H
  icases H with ⟨H1, H2⟩
  isplitl [H1]
  · iexists g; iexact H1
  · iexists g; iexact H2

/-- One round: the last copy of a slot awaited, then the next block of rows through the slot. -/
theorem wp_step {s s' : Shape} {px : Rect S3x1024x4096} {ro : Rect S2x512x2048} {hst : ∀ a, ro.stride a = 1} {hq : ro.shape.Squeezes s}
    {out : Memref sig .tc .hbm s .f32} {out' : Memref sig .tc .hbm s' .f32} {sem : DmaSem sig} (N : ℕ) {N' : ℕ} {S : Finset S3x1024x4096.Idx} {q : PosShare TreeShare}
    (w : S4096x2048.Idx → Elt F .fp8e5m2) (v : s.Idx → Elt F .f32) {v' : s'.Idx → Elt F .f32} {A : Finset S2x512x2048.Idx} (W : Waits sig Unit)
    {pay : (px.shape.Idx → Elt F .fp8e5m2) → (S4096x2048.Idx → Elt F .fp8e5m2) → (ro.shape.Idx → Elt F .f32)}
    {sp sp' : Space} {s₁ s₂ : Shape} {e₁ e₂ : EltTy} {src : Memref sig .tc sp' s₁ e₁} {dst : Memref sig .tc sp s₂ e₂}
    {hsrc : src.view.WordExact} {hdst : dst.view.WordExact} (hN' : dst.view.dmaCredit = N')
    (hN : out.view.amount (.dma sem) = N) (hN0 : 0 < N) (hS : px.set ⊆ S) (hA : ro.set ⊆ A)
    (hv : ∀ i, pay (cut px (cC m c)) w (Shape.reshapeEquiv hq.numel_eq i) = v i)
    {hl1 hl2 hl3 hx hm h1 h2 h3}
    {k : PUnit → Prog (TpuEff nD τ sig (Elt F) Λ₀ .tc) PUnit} {Q : PUnit → sProp 𝕄} :
    iprop(OutFlight c sem N' out' v' A ∗ owes (c : Thread nD τ) 0 W ∗ (cM.view.loc (c : Thread nD τ) ↦[S]{q} cC m c)
        ∗ ((Memref.whole cc0_scratch1).view.loc (c : Thread nD τ) ↦[Finset.univ]{fullShare} w) ∗ Blank c out)
      ⊢ iprop((∀ W', (owes (c : Thread nD τ) 0 W' ∗ Done c out' v' ∗ Slot c (A \ ro.set) ∗ (cM.view.loc (c : Thread nD τ) ↦[S]{q} cC m c)
          ∗ ((Memref.whole cc0_scratch1).view.loc (c : Thread nD τ) ↦[Finset.univ]{fullShare} w)
          ∗ OutFlight c sem N out v ro.set) -∗ wpB c (k ⟨⟩) Q)
        -∗ wpB c (.op (.waitDma2 sem src dst hsrc hdst) fun _ => .op (.load cM px.toLoadRect hl1) fun x => .op (.load (Memref.whole cc0_scratch1) (Rect.unit (s := S4096x2048) ![0, 0] S4096x2048.size inb_S4096x2048_S4096x2048_0_0).toLoadRect hl2) fun y =>
            .op (.load oM ro.toLoadRect hl3) fun _ => .op (.store oM ro (pay x y) Finset.univ hx hm) fun _ =>
            .op (.enqueueDma ((oM.slice ro hst).squeeze s hq) (.here out) (.dma sem) h1 h2 h3) k) Q) := by
  iintro ⟨HF, HO, HX, HW, HB⟩ Hk
  iapply (wp_outwait c W hN') $$ [HF HO]
  · isplitl [HF] <;> iassumption
  iintro %W' ⟨HO, HV, HD, HS⟩
  ihave HS := (slot_part c hA) $$ HS
  icases HS with ⟨HS, HS'⟩
  iapply (wp_chunk m c N w v hN hN0 hS hv) $$ [HX HW HS HB HV]
  · isplitl [HX]; · iexact HX
    isplitl [HW]; · iexact HW
    isplitl [HS]; · iexact HS
    isplitl [HB] <;> iassumption
  iintro ⟨HX, HW, HF⟩
  iapply Hk
  isplitl [HO]; · iexact HO
  isplitl [HD]; · iexact HD
  isplitl [HS']; · iexact HS'
  isplitl [HX]; · iexact HX
  isplitl [HW] <;> iassumption

/-- The same, the block of the operand awaited first. -/
theorem wp_round (K : Dev nD × Fin 33 → ℕ) (i : Fin 16) {s s' : Shape} {px : Rect S3x1024x4096} {ro : Rect S2x512x2048} {hst : ∀ a, ro.stride a = 1} {hq : ro.shape.Squeezes s}
    {out : Memref sig .tc .hbm s .f32} {out' : Memref sig .tc .hbm s' .f32} {sem : DmaSem sig} (N : ℕ) {N' : ℕ}
    (w : S4096x2048.Idx → Elt F .fp8e5m2) (v : s.Idx → Elt F .f32) {v' : s'.Idx → Elt F .f32} {A : Finset S2x512x2048.Idx} (W : Waits sig Unit)
    {pay : (px.shape.Idx → Elt F .fp8e5m2) → (S4096x2048.Idx → Elt F .fp8e5m2) → (ro.shape.Idx → Elt F .f32)}
    {sp sp' : Space} {s₁ s₂ : Shape} {e₁ e₂ : EltTy} {src : Memref sig .tc sp' s₁ e₁} {dst : Memref sig .tc sp s₂ e₂}
    {hsrc : src.view.WordExact} {hdst : dst.view.WordExact}
    {sp₃ sp₄ : Space} {s₃ s₄ : Shape} {e₃ e₄ : EltTy} {src' : Memref sig .tc sp₃ s₃ e₃} {dst' : Memref sig .tc sp₄ s₄ e₄}
    {hsrc' : src'.view.WordExact} {hdst' : dst'.view.WordExact} {sm : DmaSem sig}
    (hsm : sm = recvS i) (hn : amt i = dst'.view.dmaCredit) (hN' : dst.view.dmaCredit = N')
    (hN : out.view.amount (.dma sem) = N) (hN0 : 0 < N) (hS : px.set ⊆ cset i) (hA : ro.set ⊆ A)
    (hv : ∀ i, pay (cut px (cC m c)) w (Shape.reshapeEquiv hq.numel_eq i) = v i)
    {hl1 hl2 hl3 hx hm h1 h2 h3}
    {k : PUnit → Prog (TpuEff nD τ sig (Elt F) Λ₀ .tc) PUnit} {Q : PUnit → sProp 𝕄} :
    iprop(records m K ∗ levAts L lv ∗ owes (c : Thread nD τ) 0 W ∗ RecvTok c i ∗ OutFlight c sem N' out' v' A
        ∗ ((Memref.whole cc0_scratch1).view.loc (c : Thread nD τ) ↦[Finset.univ]{fullShare} w) ∗ Blank c out)
      ⊢ iprop((∀ W', (owes (c : Thread nD τ) 0 W' ∗ (semVal (recvCell c i) 0 ∗ landPts m c i) ∗ Done c out' v' ∗ Slot c (A \ ro.set)
          ∗ ((Memref.whole cc0_scratch1).view.loc (c : Thread nD τ) ↦[Finset.univ]{fullShare} w)
          ∗ OutFlight c sem N out v ro.set) -∗ wpB c (k ⟨⟩) Q)
        -∗ wpB c (.op (.waitDma2 sm src' dst' hsrc' hdst') fun _ => .op (.waitDma2 sem src dst hsrc hdst) fun _ => .op (.load cM px.toLoadRect hl1) fun x => .op (.load (Memref.whole cc0_scratch1) (Rect.unit (s := S4096x2048) ![0, 0] S4096x2048.size inb_S4096x2048_S4096x2048_0_0).toLoadRect hl2) fun y =>
            .op (.load oM ro.toLoadRect hl3) fun _ => .op (.store oM ro (pay x y) Finset.univ hx hm) fun _ =>
            .op (.enqueueDma ((oM.slice ro hst).squeeze s hq) (.here out) (.dma sem) h1 h2 h3) k) Q) := by
  iintro ⟨#HR, #HL, HO, HT, HF, HW, HB⟩ Hk
  iapply (wp_recv_wait m K c i 0 (Above.zero _) W hsm hn) $$ [HO HT]
  · isplitr; · iexact HR
    isplitr; · iexact HL
    isplitl [HO] <;> iassumption
  iintro %W₁ ⟨HO, HV, HX⟩
  unfold landPts
  iapply (wp_step m c N w v W₁ hN' hN hN0 hS hA hv) $$ [HF HO HX HW HB]
  · isplitl [HF]; · iexact HF
    isplitl [HO]; · iexact HO
    isplitl [HX]; · iexact HX
    isplitl [HW] <;> iassumption
  iintro %W₂ ⟨HO, HD, HS, HX, HW, HF⟩
  iapply Hk
  isplitl [HO]; · iexact HO
  isplitl [HV HX]; · isplitl [HV] <;> iassumption
  isplitl [HD]; · iexact HD
  isplitl [HS]; · iexact HS
  isplitl [HW] <;> iassumption

end Chunk

/-! ## The blocks of the result -/

/-- A block of 256 rows of the product, scaled. -/
def chunk256 (s : F .f32) (x : S1x256x4096.Idx → Elt F .fp8e5m2) (w : S4096x2048.Idx → Elt F .fp8e5m2) : S256x2048.Idx → Elt F .f32 :=
  mulf (matmul dot_S256x4096_S4096x2048_S256x2048_1_0_0_1_n_n none (shapeCast S256x4096 x shapeCasts_S1x256x4096_S256x4096 : FVec F S256x4096 .fp8e5m2) (w : FVec F S4096x2048 .fp8e5m2)
    (constant S256x2048 .f32 0x00000000#32)) (broadcast S256x2048 s)

/-- A block of 128 rows of the product, scaled. -/
def chunk128 (s : F .f32) (x : S1x128x4096.Idx → Elt F .fp8e5m2) (w : S4096x2048.Idx → Elt F .fp8e5m2) : S128x2048.Idx → Elt F .f32 :=
  mulf (matmul dot_S128x4096_S4096x2048_S128x2048_1_0_0_1_n_n none (shapeCast S128x4096 x shapeCasts_S1x128x4096_S128x4096 : FVec F S128x4096 .fp8e5m2) (w : FVec F S4096x2048 .fp8e5m2)
    (constant S128x2048 .f32 0x00000000#32)) (broadcast S128x2048 s)

/-- The stored block of 256 rows, reshaped, is the scaled product. -/
theorem pay256 (s : F .f32) (x : S1x256x4096.Idx → Elt F .fp8e5m2) (w : S4096x2048.Idx → Elt F .fp8e5m2) (hq : S256x2048.numel = S1x256x2048.numel) (i : S256x2048.Idx) :
    k0_pay13 s x w (Shape.reshapeEquiv hq i) = chunk256 s x w i := by
  show chunk256 s x w (Shape.reshapeEquiv _ (Shape.reshapeEquiv hq i)) = _
  rw [Shape.reshapeEquiv_reshapeEquiv, Shape.reshapeEquiv_self]

/-- The stored block of 128 rows, reshaped, is the scaled product. -/
theorem pay128 (s : F .f32) (x : S1x128x4096.Idx → Elt F .fp8e5m2) (w : S4096x2048.Idx → Elt F .fp8e5m2) (hq : S128x2048.numel = S1x128x2048.numel) (i : S128x2048.Idx) :
    k0_pay20 s x w (Shape.reshapeEquiv hq i) = chunk128 s x w i := by
  show chunk128 s x w (Shape.reshapeEquiv _ (Shape.reshapeEquiv hq i)) = _
  rw [Shape.reshapeEquiv_reshapeEquiv, Shape.reshapeEquiv_self]

end Cert.Gather

end
-- ==== Proof.Pass.lean ====
/-
The second round of copies: the blocks that have come from the neighbours are passed on, half of their share with them.
-/
module

public import proofs.«01_k».proof.Proof.Chunk

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Halves
variable (c : Dev nD)

/-- The left half of the share of a landed block: what the device keeps while it passes the block on. -/
def Half (i : Fin 16) : sProp 𝕄 := (locC c ↦[cset i]{fullShare.left} cC m c)

/-- A landed block is its left half and the shares the two copies passing it on take. -/
theorem land_split (i j k : Fin 16) (hj : ¬ j.val < 8) (hk : ¬ k.val < 8) (hu : cset i = pset j ∪ pset k) (hd : Disjoint (pset j) (pset k)) :
    landPts m c i ⊣⊢ iprop(Half m c i ∗ srcPts m c j ∗ srcPts m c k) := by
  unfold landPts Half srcPts shr
  rw [if_neg hj, if_neg hk, if_neg hj, if_neg hk]
  have h1 : iprop(locC c ↦[cset i]{fullShare} cC m c) ⊣⊢ (iprop((locC c ↦[cset i]{fullShare.left} cC m c) ∗ (locC c ↦[cset i]{fullShare.right} cC m c)) : sProp 𝕄) :=
    pointsTo_share (PosShare.mem_left_op_right fullShare)
  have h2 : iprop(locC c ↦[cset i]{fullShare.right} cC m c) ⊣⊢ (iprop((locC c ↦[pset j]{fullShare.right} cC m c) ∗ (locC c ↦[pset k]{fullShare.right} cC m c)) : sProp 𝕄) := by
    rw [hu]; exact pointsTo_union hd
  exact h1.trans (sep_congr_right h2)

end Halves

/-- A set of whole rows of one plane of the communication buffer. -/
theorem mem_rows {p o n : ℕ} (h : ∀ a, (![p, o, 0] : Fin 3 → ℕ) a + (![1, n, 4096] : Fin 3 → ℕ) a ≤ S3x1024x4096.size a) (y : S3x1024x4096.Idx) :
    y ∈ (Rect.unit (s := S3x1024x4096) ![p, o, 0] ![1, n, 4096] h).set ↔ (y 0).val = p ∧ o ≤ (y 1).val ∧ (y 1).val < o + n := by
  have h2 : (y 2).val < 4096 := (y 2).isLt
  rw [Rect.mem_set_unit, Fin.forall_fin_succ, Fin.forall_fin_succ, Fin.forall_fin_succ]
  show (p ≤ (y 0).val ∧ (y 0).val < p + 1) ∧ (o ≤ (y 1).val ∧ (y 1).val < o + n) ∧ ((0 : ℕ) ≤ (y 2).val ∧ (y 2).val < 0 + 4096) ∧ _ ↔ _
  constructor
  · rintro ⟨⟨ha, hb⟩, ⟨hc, hd⟩, -⟩
    exact ⟨by omega, hc, hd⟩
  · rintro ⟨ha, hb, hc⟩
    exact ⟨⟨by omega, by omega⟩, ⟨hb, hc⟩, ⟨by omega, by omega⟩, fun i => i.elim0⟩

/-- Two blocks of rows of one plane that meet make one block, and have no row in common. -/
theorem rows_union {p o n n' : ℕ} (h) (h₁) (h₂) :
    (Rect.unit (s := S3x1024x4096) ![p, o, 0] ![1, n + n', 4096] h).set = (Rect.unit (s := S3x1024x4096) ![p, o, 0] ![1, n, 4096] h₁).set ∪ (Rect.unit (s := S3x1024x4096) ![p, o + n, 0] ![1, n', 4096] h₂).set
      ∧ Disjoint (Rect.unit (s := S3x1024x4096) ![p, o, 0] ![1, n, 4096] h₁).set (Rect.unit (s := S3x1024x4096) ![p, o + n, 0] ![1, n', 4096] h₂).set := by
  constructor
  · ext y
    rw [Finset.mem_union, mem_rows, mem_rows, mem_rows]
    constructor
    · rintro ⟨ha, hb, hc⟩
      by_cases hlt : (y 1).val < o + n
      · exact Or.inl ⟨ha, hb, hlt⟩
      · exact Or.inr ⟨ha, by omega, by omega⟩
    · rintro (⟨ha, hb, hc⟩ | ⟨ha, hb, hc⟩)
      · exact ⟨ha, hb, by omega⟩
      · exact ⟨ha, by omega, by omega⟩
  · rw [Finset.disjoint_left]
    intro y hy hy'
    rw [mem_rows] at hy hy'
    omega

/-- The first block from the right is the first two blocks forwarded to the left, -/
theorem sets_0 : cset 0 = pset 8 ∪ pset 9 ∧ Disjoint (pset 8) (pset 9) := rows_union (p := 0) (o := 0) (n := 128) (n' := 128) (by decide) (by decide) (by decide)
/-- and the second is the next two. -/
theorem sets_1 : cset 1 = pset 10 ∪ pset 11 ∧ Disjoint (pset 10) (pset 11) := rows_union (p := 0) (o := 256) (n := 128) (n' := 128) (by decide) (by decide) (by decide)
/-- The first block from the left is the first two blocks forwarded to the right, -/
theorem sets_4 : cset 4 = pset 12 ∪ pset 13 ∧ Disjoint (pset 12) (pset 13) := by
  have h := rows_union (p := 1) (o := 768) (n := 128) (n' := 128) (by decide) (by decide) (by decide)
  exact ⟨h.1.trans (Finset.union_comm _ _), h.2.symm⟩
/-- and the second is the next two. -/
theorem sets_5 : cset 5 = pset 14 ∪ pset 15 ∧ Disjoint (pset 14) (pset 15) := by
  have h := rows_union (p := 1) (o := 512) (n := 128) (n' := 128) (by decide) (by decide) (by decide)
  exact ⟨h.1.trans (Finset.union_comm _ _), h.2.symm⟩

section Pass
variable (K : Dev nD × Fin 33 → ℕ) (c : Dev nD)

set_option maxHeartbeats 2000000 in
/-- The first blocks from both neighbours awaited, their halves passed on to the left and the first one to the right. -/
theorem wp_part8 (W : Waits sig Unit) (v4 v6 : BitVec 32) {k : _ → Prog (TpuEff nD τ sig (Elt F) Λ₀ .tc) PUnit} {Q : PUnit → sProp 𝕄} :
    iprop(records m K ∗ levAts L lv ∗ owes (c : Thread nD τ) (rem c 8) W
        ∗ (RecvTok c 0 ∗ RecvTok c 1 ∗ RecvTok c 4 ∗ RecvTok c 5)
        ∗ (dstPts c 8 ∗ dstPts c 9 ∗ dstPts c 10 ∗ dstPts c 11 ∗ dstPts c 12)
        ∗ (SendTok c 8 ∗ SendTok c 9 ∗ SendTok c 10 ∗ SendTok c 11 ∗ SendTok c 12))
      ⊢ iprop((∀ W', (owes (c : Thread nD τ) (rem c 3) W' ∗ (Sent c 8 ∗ Sent c 9 ∗ Sent c 10 ∗ Sent c 11 ∗ Sent c 12)
            ∗ (semVal (recvCell c 0) 0 ∗ semVal (recvCell c 1) 0 ∗ semVal (recvCell c 4) 0 ∗ semVal (recvCell c 5) 0)
            ∗ (Half m c 0 ∗ Half m c 1 ∗ Half m c 4 ∗ Half m c 5) ∗ (srcPts m c 13 ∗ srcPts m c 14 ∗ srcPts m c 15)) -∗ wpB c (k ⟨⟩) Q)
          -∗ wpB c (onBufs (k0_part8 (F := F)) c v4 >>= fun _ => onBufs (k0_part9 (F := F)) c v4 v6 >>= fun v247 => onBufs (k0_part10 (F := F)) c v6 v247 >>= k) Q) := by
  unfold onBufs
  rw [k0_part8_eq_skeleton, k0_part9_eq_skeleton, k0_part10_eq_skeleton]
  unfold k0_part8_skel k0_part9_skel k0_part10_skel
  simp only [Prog.lift, Prog.bind_op, Prog.bind_ret, Prog.pure_eq_ret]
  iintro ⟨#HR, #HL, HO, ⟨T0, T1, T4, T5⟩, ⟨D8, D9, D10, D11, D12⟩, G8, G9, G10, G11, G12⟩ Hk
  iapply (wp_recv_wait m K c 0 (rem c 8) ((Above.rem8 c 8 (by decide)).mono (by decide)) W (by rfl) (by rfl)) $$ [HO T0]
  · isplitr; · iexact HR
    isplitr; · iexact HL
    isplitl [HO] <;> iassumption
  iintro %W0 ⟨HO, V0, X0⟩
  ihave X0 := (land_split m c 0 8 9 (by decide) (by decide) (sets_0).1 (sets_0).2).1 $$ X0
  icases X0 with ⟨X0, S8, S9⟩
  iapply (wp_recv_wait m K c 1 (rem c 8) ((Above.rem8 c 8 (by decide)).mono (by decide)) W0 (by rfl) (by rfl)) $$ [HO T1]
  · isplitr; · iexact HR
    isplitr; · iexact HL
    isplitl [HO] <;> iassumption
  iintro %W1 ⟨HO, V1, X1⟩
  ihave X1 := (land_split m c 1 10 11 (by decide) (by decide) (sets_1).1 (sets_1).2).1 $$ X1
  icases X1 with ⟨X1, S10, S11⟩
  iapply (wp_send_last m K c 8 (by decide) (Fin.ext (k0_dev11_eq c)) W1 (n := 8) (n' := 7) (by decide) (by decide) (by decide) (by decide) (by decide) (by rfl) (by rfl)) $$ [HO S8 D8 G8]
  · isplitr; · iexact HR
    isplitl [S8]; · iexact S8
    isplitl [D8]; · iexact D8
    isplitl [HO] <;> iassumption
  iintro ⟨N8, HO⟩
  iapply (wp_send_last m K c 9 (by decide) (Fin.ext (k0_dev12_eq c)) W1 (n := 7) (n' := 6) (by decide) (by decide) (by decide) (by decide) (by decide) (by rfl) (by rfl)) $$ [HO S9 D9 G9]
  · isplitr; · iexact HR
    isplitl [S9]; · iexact S9
    isplitl [D9]; · iexact D9
    isplitl [HO] <;> iassumption
  iintro ⟨N9, HO⟩
  iapply (wp_send_last m K c 10 (by decide) (Fin.ext (k0_dev13_eq c)) W1 (n := 6) (n' := 5) (by decide) (by decide) (by decide) (by decide) (by decide) (by rfl) (by rfl)) $$ [HO S10 D10 G10]
  · isplitr; · iexact HR
    isplitl [S10]; · iexact S10
    isplitl [D10]; · iexact D10
    isplitl [HO] <;> iassumption
  iintro ⟨N10, HO⟩
  iapply (wp_send_last m K c 11 (by decide) (Fin.ext (k0_dev14_eq c)) W1 (n := 5) (n' := 4) (by decide) (by decide) (by decide) (by decide) (by decide) (by rfl) (by rfl)) $$ [HO S11 D11 G11]
  · isplitr; · iexact HR
    isplitl [S11]; · iexact S11
    isplitl [D11]; · iexact D11
    isplitl [HO] <;> iassumption
  iintro ⟨N11, HO⟩
  iapply (wp_recv_wait m K c 4 (rem c 4) ((Above.rem8 c 4 (by decide)).mono (by decide)) W1 (by rfl) (by rfl)) $$ [HO T4]
  · isplitr; · iexact HR
    isplitr; · iexact HL
    isplitl [HO] <;> iassumption
  iintro %W4 ⟨HO, V4, X4⟩
  ihave X4 := (land_split m c 4 12 13 (by decide) (by decide) (sets_4).1 (sets_4).2).1 $$ X4
  icases X4 with ⟨X4, S12, S13⟩
  iapply (wp_recv_wait m K c 5 (rem c 4) ((Above.rem8 c 4 (by decide)).mono (by decide)) W4 (by rfl) (by rfl)) $$ [HO T5]
  · isplitr; · iexact HR
    isplitr; · iexact HL
    isplitl [HO] <;> iassumption
  iintro %W5 ⟨HO, V5, X5⟩
  ihave X5 := (land_split m c 5 14 15 (by decide) (by decide) (sets_5).1 (sets_5).2).1 $$ X5
  icases X5 with ⟨X5, S14, S15⟩
  iapply (wp_send_last m K c 12 (by decide) (Fin.ext (k0_dev15_eq c)) W5 (n := 4) (n' := 3) (by decide) (by decide) (by decide) (by decide) (by decide) (by rfl) (by rfl)) $$ [HO S12 D12 G12]
  · isplitr; · iexact HR
    isplitl [S12]; · iexact S12
    isplitl [D12]; · iexact D12
    isplitl [HO] <;> iassumption
  iintro ⟨N12, HO⟩
  iapply Hk
  isplitl [HO]; · iexact HO
  isplitl [N8 N9 N10 N11 N12]
  · isplitl [N8]; · iexact N8
    isplitl [N9]; · iexact N9
    isplitl [N10]; · iexact N10
    isplitl [N11]; · iexact N11
    iexact N12
  isplitl [V0 V1 V4 V5]
  · isplitl [V0]; · iexact V0
    isplitl [V1]; · iexact V1
    isplitl [V4]; · iexact V4
    iexact V5
  isplitl [X0 X1 X4 X5]
  · isplitl [X0]; · iexact X0
    isplitl [X1]; · iexact X1
    isplitl [X4]; · iexact X4
    iexact X5
  isplitl [S13]; · iexact S13
  isplitl [S14]; · iexact S14
  iexact S15

end Pass

end Cert.Gather

end
-- ==== Proof.Turns.lean ====
/-
The blocks of the neighbours multiplied, block of rows by block of rows.
-/
module

public import proofs.«01_k».proof.Proof.Pass

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The window of the result that gets the rows `[256 b, 256 (b + 1))` of the block that came through plane `a`. -/
abbrev out2 (c : Dev nD) (a : Fin 2) (b : Fin 4) : Memref sig .tc .hbm S256x2048 .f32 :=
  (Memref.whole main_v1).slice (Rect.unit (s := S4096x2048) (k0_off2 c (BitVec.ofNat 32 (1 + 2 * a.val)) (BitVec.ofNat 32 (256 * b.val))) S256x2048.size (k0_off2_inb c a b)) (fun _ => rfl)

/-- The window of the result that gets the rows `[128 r, 128 (r + 1))` of the opposite device's block. -/
abbrev out3 (c : Dev nD) (r : Fin 8) : Memref sig .tc .hbm S128x2048 .f32 :=
  (Memref.whole main_v1).slice (Rect.unit (s := S4096x2048) (k0_off3 c (BitVec.ofNat 32 (128 * r.val))) S128x2048.size (k0_off3_inb c r)) (fun _ => rfl)

/-- A block of 256 rows of a neighbour's plane is inside the communication buffer. -/
theorem inb_rows2 (a : Fin 2) (b : Fin 4) : ∀ i, (![a.val, 256 * b.val, 0] : Fin 3 → ℕ) i + S1x256x4096.size i ≤ S3x1024x4096.size i := by
  revert a b; decide
/-- A block of 128 rows of the opposite device's plane is inside the communication buffer. -/
theorem inb_rows3 (r : Fin 8) : ∀ i, (![2, 128 * r.val, 0] : Fin 3 → ℕ) i + S1x128x4096.size i ≤ S3x1024x4096.size i := by
  revert r; decide

/-- The values of those windows. -/
def val2 (c : Dev nD) (s : F .f32) (w : S4096x2048.Idx → Elt F .fp8e5m2) (a : Fin 2) (b : Fin 4) : S256x2048.Idx → Elt F .f32 :=
  chunk256 s (cut (Rect.unit (s := S3x1024x4096) ![a.val, 256 * b.val, 0] S1x256x4096.size (inb_rows2 a b)) (cC m c)) w
/-- The values of the windows for the opposite device's rows. -/
def val3 (c : Dev nD) (s : F .f32) (w : S4096x2048.Idx → Elt F .fp8e5m2) (r : Fin 8) : S128x2048.Idx → Elt F .f32 :=
  chunk128 s (cut (Rect.unit (s := S3x1024x4096) ![2, 128 * r.val, 0] S1x128x4096.size (inb_rows3 r)) (cC m c)) w

/-- A slot of 256 rows is inside the staging buffer. -/
theorem inb_slot256 (p : Fin 2) : ∀ i, (![p.val, 0, 0] : Fin 3 → ℕ) i + S1x256x2048.size i ≤ S2x512x2048.size i := by revert p; decide
/-- A slot of 128 rows is inside the staging buffer. -/
theorem inb_slot128 (p : Fin 2) : ∀ i, (![p.val, 0, 0] : Fin 3 → ℕ) i + S1x128x2048.size i ≤ S2x512x2048.size i := by revert p; decide
/-- The rows of the two slots, for blocks of 256 rows and for blocks of 128. -/
def slot256 (p : Fin 2) : Finset S2x512x2048.Idx := (Rect.unit (s := S2x512x2048) ![p.val, 0, 0] S1x256x2048.size (inb_slot256 p)).set
/-- The rows of a slot, for a block of 128. -/
def slot128 (p : Fin 2) : Finset S2x512x2048.Idx := (Rect.unit (s := S2x512x2048) ![p.val, 0, 0] S1x128x2048.size (inb_slot128 p)).set

/-- The smaller slot is part of the larger. -/
theorem slot_sub (p : Fin 2) : slot128 p ⊆ slot256 p := by
  intro y hy
  unfold slot128 at hy
  unfold slot256
  rw [Rect.mem_set_unit] at hy ⊢
  intro a
  refine ⟨(hy a).1, lt_of_lt_of_le (hy a).2 (Nat.add_le_add_left ?_ _)⟩
  revert a; decide

section Turns
variable (K : Dev nD × Fin 33 → ℕ) (c : Dev nD)

set_option maxHeartbeats 8000000 in
/-- The last three copies, and the blocks of the neighbours multiplied. -/
theorem wp_part11 (W : Waits sig Unit) (v4 v6 v8 : BitVec 32) (s : F .f32) (w : S4096x2048.Idx → Elt F .fp8e5m2) {k : _ → Prog (TpuEff nD τ sig (Elt F) Λ₀ .tc) PUnit} {Q : PUnit → sProp 𝕄} :
    iprop(records m K ∗ levAts L lv ∗ owes (c : Thread nD τ) (rem c 3) W ∗ (srcPts m c 13 ∗ srcPts m c 14 ∗ srcPts m c 15) ∗ (dstPts c 13 ∗ dstPts c 14 ∗ dstPts c 15) ∗ (SendTok c 13 ∗ SendTok c 14 ∗ SendTok c 15) ∗ (RecvTok c 2 ∗ RecvTok c 6 ∗ RecvTok c 3 ∗ RecvTok c 7 ∗ RecvTok c 8) ∗ (Half m c 0 ∗ Half m c 1 ∗ Half m c 4 ∗ Half m c 5) ∗ ((Memref.whole cc0_scratch1).view.loc (c : Thread nD τ) ↦[Finset.univ]{fullShare} w) ∗ (Slot (F := F) c (slot256 0) ∗ Slot (F := F) c (slot256 1)) ∗ (Blank (F := F) c (out2 c 0 0) ∗ Blank (F := F) c (out2 c 1 3) ∗ Blank (F := F) c (out2 c 0 1) ∗ Blank (F := F) c (out2 c 1 2) ∗ Blank (F := F) c (out2 c 0 2) ∗ Blank (F := F) c (out2 c 1 1) ∗ Blank (F := F) c (out2 c 0 3) ∗ Blank (F := F) c (out2 c 1 0)) ∗ Blank (F := F) c (out3 c 0) ∗ semVal ((c : Thread nD τ), .dma (37 : DmaSem sig)) 0 ∗ semVal ((c : Thread nD τ), .dma (38 : DmaSem sig)) 0)
      ⊢ iprop((∀ W', (owes (c : Thread nD τ) 0 W' ∗ (Sent c 13 ∗ Sent c 14 ∗ Sent c 15) ∗ (semVal (recvCell c 2) 0 ∗ semVal (recvCell c 6) 0 ∗ semVal (recvCell c 3) 0 ∗ semVal (recvCell c 7) 0 ∗ semVal (recvCell c 8) 0) ∗ (landPts m c 2 ∗ landPts m c 6 ∗ landPts m c 3 ∗ landPts m c 7 ∗ landPts m c 8) ∗ (Half m c 0 ∗ Half m c 1 ∗ Half m c 4 ∗ Half m c 5) ∗ ((Memref.whole cc0_scratch1).view.loc (c : Thread nD τ) ↦[Finset.univ]{fullShare} w) ∗ Slot (F := F) c (slot256 0 \ slot128 0) ∗ (Done c (out2 c 0 0) (val2 m c s w 0 0) ∗ Done c (out2 c 1 3) (val2 m c s w 1 3) ∗ Done c (out2 c 0 1) (val2 m c s w 0 1) ∗ Done c (out2 c 1 2) (val2 m c s w 1 2) ∗ Done c (out2 c 0 2) (val2 m c s w 0 2) ∗ Done c (out2 c 1 1) (val2 m c s w 1 1) ∗ Done c (out2 c 0 3) (val2 m c s w 0 3)) ∗ OutFlight c ((38 : DmaSem sig)) 65536 (out2 c 1 0) (val2 m c s w 1 0) (slot256 1) ∗ OutFlight c ((37 : DmaSem sig)) 32768 (out3 c 0) (val3 m c s w 0) (slot128 0)) -∗ wpB c (k ⟨⟩) Q)
          -∗ wpB c (onBufs (k0_part11 (F := F)) c v6 >>= fun r => onBufs (k0_part12 (F := F)) c v4 s r.1 r.2 >>= fun _ => onBufs (k0_part13 (F := F)) c v4 v6 s >>= fun v354 => onBufs (k0_part14 (F := F)) c v4 v6 s v354 >>= fun v382 => onBufs (k0_part15 (F := F)) c v4 v6 s v382 >>= fun v410 => onBufs (k0_part16 (F := F)) c v4 v6 s v410 >>= fun v438 => onBufs (k0_part17 (F := F)) c v4 v6 s v438 >>= fun v466 => onBufs (k0_part18 (F := F)) c v4 v8 s v466 >>= fun v495 => onBufs (k0_part19 (F := F)) c v6 s v495 >>= k) Q) := by
  unfold onBufs
  rw [k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
  unfold k0_part11_skel k0_part12_skel k0_part13_skel k0_part14_skel k0_part15_skel k0_part16_skel k0_part17_skel k0_part18_skel k0_part19_skel Half
  conv => enter [2]; simp only [Prog.lift, Prog.bind_op, Prog.bind_ret, Prog.pure_eq_ret]
  iintro ⟨#HR, #HL, HO, ⟨S13, S14, S15⟩, ⟨D13, D14, D15⟩, ⟨G13, G14, G15⟩, ⟨T2, T6, T3, T7, T8⟩, ⟨X0, X1, X4, X5⟩, HW, ⟨Z0, Z1⟩, ⟨B00, B13, B01, B12, B02, B11, B03, B10⟩, B_0, V37, V38⟩ Hk
  iapply (wp_send_last m K c 13 (by decide) (Fin.ext (k0_dev16_eq c)) W (n := 3) (n' := 2) (by decide) (by decide) (by decide) (by decide) (by decide) (by rfl) (by rfl)) $$ [HO S13 D13 G13]
  · isplitr; · iexact HR
    isplitl [S13]; · iexact S13
    isplitl [D13]; · iexact D13
    isplitl [HO] <;> iassumption
  iintro ⟨N13, HO⟩
  iapply (wp_send_last m K c 14 (by decide) (Fin.ext (k0_dev17_eq c)) W (n := 2) (n' := 1) (by decide) (by decide) (by decide) (by decide) (by decide) (by rfl) (by rfl)) $$ [HO S14 D14 G14]
  · isplitr; · iexact HR
    isplitl [S14]; · iexact S14
    isplitl [D14]; · iexact D14
    isplitl [HO] <;> iassumption
  iintro ⟨N14, HO⟩
  iapply (wp_send_last m K c 15 (by decide) (Fin.ext (k0_dev18_eq c)) W (n := 1) (n' := 0) (by decide) (by decide) (by decide) (by decide) (by decide) (by rfl) (by rfl)) $$ [HO S15 D15 G15]
  · isplitr; · iexact HR
    isplitl [S15]; · iexact S15
    isplitl [D15]; · iexact D15
    isplitl [HO] <;> iassumption
  iintro ⟨N15, HO⟩
  rw [show rem c 0 = 0 from rfl]
  iapply (wp_chunk m c 65536 (S := cset 0) (q := fullShare.left) w (val2 m c s w 0 0) (by rfl) (by decide) (by exact le_of_eq (unit_set_congr (by decide) (by decide) _ _)) (by exact fun i => pay256 s _ w _ i)) $$ [X0 HW Z0 B00 V37]
  · isplitl [X0]; · iexact X0
    isplitl [HW]; · iexact HW
    isplitl [Z0]; · iexact Z0
    isplitl [B00]; · iexact B00
    iexact V37
  iintro ⟨X0, HW, F0⟩
  iapply (wp_chunk m c 65536 (S := cset 4) (q := fullShare.left) w (val2 m c s w 1 3) (by rfl) (by decide) (by exact le_of_eq (unit_set_congr (by decide) (by decide) _ _)) (by exact fun i => pay256 s _ w _ i)) $$ [X4 HW Z1 B13 V38]
  · isplitl [X4]; · iexact X4
    isplitl [HW]; · iexact HW
    isplitl [Z1]; · iexact Z1
    isplitl [B13]; · iexact B13
    iexact V38
  iintro ⟨X4, HW, F1⟩
  iapply (wp_step m c 65536 (S := cset 1) (q := fullShare.left) w (val2 m c s w 0 1) W (by rfl) (by rfl) (by decide) (by exact le_of_eq (unit_set_congr (by decide) (by decide) _ _)) (by exact Finset.Subset.refl _) (by exact fun i => pay256 s _ w _ i)) $$ [F0 HO X1 HW B01]
  · isplitl [F0]; · iexact F0
    isplitl [HO]; · iexact HO
    isplitl [X1]; · iexact X1
    isplitl [HW] <;> iassumption
  iintro %W2 ⟨HO, E00, -, X1, HW, F0⟩
  iapply (wp_step m c 65536 (S := cset 5) (q := fullShare.left) w (val2 m c s w 1 2) W2 (by rfl) (by rfl) (by decide) (by exact le_of_eq (unit_set_congr (by decide) (by decide) _ _)) (by exact Finset.Subset.refl _) (by exact fun i => pay256 s _ w _ i)) $$ [F1 HO X5 HW B12]
  · isplitl [F1]; · iexact F1
    isplitl [HO]; · iexact HO
    isplitl [X5]; · iexact X5
    isplitl [HW] <;> iassumption
  iintro %W3 ⟨HO, E13, -, X5, HW, F1⟩
  iapply (wp_round m c K 2 65536 w (val2 m c s w 0 2) W3 (by rfl) (by rfl) (by rfl) (by rfl) (by decide) (by exact le_of_eq (unit_set_congr (by decide) (by decide) _ _)) (by exact Finset.Subset.refl _) (by exact fun i => pay256 s _ w _ i)) $$ [HO T2 F0 HW B02]
  · isplitr; · iexact HR
    isplitr; · iexact HL
    isplitl [HO]; · iexact HO
    isplitl [T2]; · iexact T2
    isplitl [F0]; · iexact F0
    isplitl [HW] <;> iassumption
  iintro %W4 ⟨HO, ⟨V2, X2⟩, E01, -, HW, F0⟩
  iapply (wp_round m c K 6 65536 w (val2 m c s w 1 1) W4 (by rfl) (by rfl) (by rfl) (by rfl) (by decide) (by exact le_of_eq (unit_set_congr (by decide) (by decide) _ _)) (by exact Finset.Subset.refl _) (by exact fun i => pay256 s _ w _ i)) $$ [HO T6 F1 HW B11]
  · isplitr; · iexact HR
    isplitr; · iexact HL
    isplitl [HO]; · iexact HO
    isplitl [T6]; · iexact T6
    isplitl [F1]; · iexact F1
    isplitl [HW] <;> iassumption
  iintro %W5 ⟨HO, ⟨V6, X6⟩, E12, -, HW, F1⟩
  iapply (wp_round m c K 3 65536 w (val2 m c s w 0 3) W5 (by rfl) (by rfl) (by rfl) (by rfl) (by decide) (by exact le_of_eq (unit_set_congr (by decide) (by decide) _ _)) (by exact Finset.Subset.refl _) (by exact fun i => pay256 s _ w _ i)) $$ [HO T3 F0 HW B03]
  · isplitr; · iexact HR
    isplitr; · iexact HL
    isplitl [HO]; · iexact HO
    isplitl [T3]; · iexact T3
    isplitl [F0]; · iexact F0
    isplitl [HW] <;> iassumption
  iintro %W6 ⟨HO, ⟨V3, X3⟩, E02, -, HW, F0⟩
  iapply (wp_round m c K 7 65536 w (val2 m c s w 1 0) W6 (by rfl) (by rfl) (by rfl) (by rfl) (by decide) (by exact le_of_eq (unit_set_congr (by decide) (by decide) _ _)) (by exact Finset.Subset.refl _) (by exact fun i => pay256 s _ w _ i)) $$ [HO T7 F1 HW B10]
  · isplitr; · iexact HR
    isplitr; · iexact HL
    isplitl [HO]; · iexact HO
    isplitl [T7]; · iexact T7
    isplitl [F1]; · iexact F1
    isplitl [HW] <;> iassumption
  iintro %W7 ⟨HO, ⟨V7, X7⟩, E11, -, HW, F1⟩
  iapply (wp_round m c K 8 32768 w (val3 m c s w 0) W7 (by rfl) (by rfl) (by rfl) (by rfl) (by decide) (by exact le_of_eq (unit_set_congr (by decide) (by decide) _ _)) (by exact slot_sub 0) (by exact fun i => pay128 s _ w _ i)) $$ [HO T8 F0 HW B_0]
  · isplitr; · iexact HR
    isplitr; · iexact HL
    isplitl [HO]; · iexact HO
    isplitl [T8]; · iexact T8
    isplitl [F0]; · iexact F0
    isplitl [HW] <;> iassumption
  iintro %W8 ⟨HO, ⟨V8, X8⟩, E03, Z0, HW, F0⟩
  iapply Hk
  isplitl [HO]; · iexact HO
  isplitl [N13 N14 N15]
  · isplitl [N13]; · iexact N13
    isplitl [N14]; · iexact N14
    iexact N15
  isplitl [V2 V6 V3 V7 V8]
  · isplitl [V2]; · iexact V2
    isplitl [V6]; · iexact V6
    isplitl [V3]; · iexact V3
    isplitl [V7]; · iexact V7
    iexact V8
  isplitl [X2 X6 X3 X7 X8]
  · isplitl [X2]; · iexact X2
    isplitl [X6]; · iexact X6
    isplitl [X3]; · iexact X3
    isplitl [X7]; · iexact X7
    iexact X8
  isplitl [X0 X1 X4 X5]
  · isplitl [X0]; · iexact X0
    isplitl [X1]; · iexact X1
    isplitl [X4]; · iexact X4
    iexact X5
  isplitl [HW]; · iexact HW
  isplitl [Z0]; · iexact Z0
  isplitl [E00 E13 E01 E12 E02 E11 E03]
  · isplitl [E00]; · iexact E00
    isplitl [E13]; · iexact E13
    isplitl [E01]; · iexact E01
    isplitl [E12]; · iexact E12
    isplitl [E02]; · iexact E02
    isplitl [E11]; · iexact E11
    iexact E03
  isplitl [F1]; · iexact F1
  iexact F0

end Turns

end Cert.Gather

end
-- ==== Proof.Opposite.lean ====
/-
The opposite device's block multiplied, and the waits for the result.
-/
module

public import proofs.«01_k».proof.Proof.Turns

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Opposite
variable (K : Dev nD × Fin 33 → ℕ) (c : Dev nD)

set_option maxHeartbeats 8000000 in
/-- The opposite device's block: the first half of its rows multiplied. -/
theorem wp_part20 (W : Waits sig Unit) (v4 v6 v8 : BitVec 32) (s : F .f32) (w : S4096x2048.Idx → Elt F .fp8e5m2) {k : _ → Prog (TpuEff nD τ sig (Elt F) Λ₀ .tc) PUnit} {Q : PUnit → sProp 𝕄} :
    iprop(records m K ∗ levAts L lv ∗ owes (c : Thread nD τ) 0 W ∗ (RecvTok c 12 ∗ RecvTok c 9 ∗ RecvTok c 13 ∗ RecvTok c 10) ∗ ((Memref.whole cc0_scratch1).view.loc (c : Thread nD τ) ↦[Finset.univ]{fullShare} w) ∗ (Blank (F := F) c (out3 c 7) ∗ Blank (F := F) c (out3 c 1) ∗ Blank (F := F) c (out3 c 6) ∗ Blank (F := F) c (out3 c 2)) ∗ OutFlight c ((38 : DmaSem sig)) 65536 (out2 c 1 0) (val2 m c s w 1 0) (slot256 1) ∗ OutFlight c ((37 : DmaSem sig)) 32768 (out3 c 0) (val3 m c s w 0) (slot128 0))
      ⊢ iprop((∀ W', (owes (c : Thread nD τ) 0 W' ∗ (semVal (recvCell c 12) 0 ∗ semVal (recvCell c 9) 0 ∗ semVal (recvCell c 13) 0 ∗ semVal (recvCell c 10) 0) ∗ (landPts m c 12 ∗ landPts m c 9 ∗ landPts m c 13 ∗ landPts m c 10) ∗ ((Memref.whole cc0_scratch1).view.loc (c : Thread nD τ) ↦[Finset.univ]{fullShare} w) ∗ Slot (F := F) c (slot256 1 \ slot128 1) ∗ (Done c (out2 c 1 0) (val2 m c s w 1 0) ∗ Done c (out3 c 0) (val3 m c s w 0) ∗ Done c (out3 c 7) (val3 m c s w 7) ∗ Done c (out3 c 1) (val3 m c s w 1)) ∗ OutFlight c ((38 : DmaSem sig)) 32768 (out3 c 6) (val3 m c s w 6) (slot128 1) ∗ OutFlight c ((37 : DmaSem sig)) 32768 (out3 c 2) (val3 m c s w 2) (slot128 0)) -∗ wpB c (k ⟨⟩) Q)
          -∗ wpB c (onBufs (k0_part20 (F := F)) c v4 v8 s >>= fun _ => onBufs (k0_part21 (F := F)) c v6 v8 s >>= fun _ => onBufs (k0_part22 (F := F)) c v8 s >>= fun v594 => onBufs (k0_part23 (F := F)) c v4 v8 s v594 >>= k) Q) := by
  unfold onBufs
  rw [k0_part20_eq_skeleton, k0_part21_eq_skeleton, k0_part22_eq_skeleton, k0_part23_eq_skeleton]
  unfold k0_part20_skel k0_part21_skel k0_part22_skel k0_part23_skel
  conv => enter [2]; simp only [Prog.lift, Prog.bind_op, Prog.bind_ret, Prog.pure_eq_ret]
  iintro ⟨#HR, #HL, HO, ⟨T12, T9, T13, T10⟩, HW, ⟨B_7, B_1, B_6, B_2⟩, F1, F0⟩ Hk
  iapply (wp_round m c K 12 32768 w (val3 m c s w 7) W (by rfl) (by rfl) (by rfl) (by rfl) (by decide) (by exact le_of_eq (unit_set_congr (by decide) (by decide) _ _)) (by exact slot_sub 1) (by exact fun i => pay128 s _ w _ i)) $$ [HO T12 F1 HW B_7]
  · isplitr; · iexact HR
    isplitr; · iexact HL
    isplitl [HO]; · iexact HO
    isplitl [T12]; · iexact T12
    isplitl [F1]; · iexact F1
    isplitl [HW] <;> iassumption
  iintro %W9 ⟨HO, ⟨V12, X12⟩, E10, Z1, HW, F1⟩
  iapply (wp_round m c K 9 32768 w (val3 m c s w 1) W9 (by rfl) (by rfl) (by rfl) (by rfl) (by decide) (by exact le_of_eq (unit_set_congr (by decide) (by decide) _ _)) (by exact Finset.Subset.refl _) (by exact fun i => pay128 s _ w _ i)) $$ [HO T9 F0 HW B_1]
  · isplitr; · iexact HR
    isplitr; · iexact HL
    isplitl [HO]; · iexact HO
    isplitl [T9]; · iexact T9
    isplitl [F0]; · iexact F0
    isplitl [HW] <;> iassumption
  iintro %W10 ⟨HO, ⟨V9, X9⟩, E_0, -, HW, F0⟩
  iapply (wp_round m c K 13 32768 w (val3 m c s w 6) W10 (by rfl) (by rfl) (by rfl) (by rfl) (by decide) (by exact le_of_eq (unit_set_congr (by decide) (by decide) _ _)) (by exact Finset.Subset.refl _) (by exact fun i => pay128 s _ w _ i)) $$ [HO T13 F1 HW B_6]
  · isplitr; · iexact HR
    isplitr; · iexact HL
    isplitl [HO]; · iexact HO
    isplitl [T13]; · iexact T13
    isplitl [F1]; · iexact F1
    isplitl [HW] <;> iassumption
  iintro %W11 ⟨HO, ⟨V13, X13⟩, E_7, -, HW, F1⟩
  iapply (wp_round m c K 10 32768 w (val3 m c s w 2) W11 (by rfl) (by rfl) (by rfl) (by rfl) (by decide) (by exact le_of_eq (unit_set_congr (by decide) (by decide) _ _)) (by exact Finset.Subset.refl _) (by exact fun i => pay128 s _ w _ i)) $$ [HO T10 F0 HW B_2]
  · isplitr; · iexact HR
    isplitr; · iexact HL
    isplitl [HO]; · iexact HO
    isplitl [T10]; · iexact T10
    isplitl [F0]; · iexact F0
    isplitl [HW] <;> iassumption
  iintro %W12 ⟨HO, ⟨V10, X10⟩, E_1, -, HW, F0⟩
  iapply Hk
  isplitl [HO]; · iexact HO
  isplitl [V12 V9 V13 V10]
  · isplitl [V12]; · iexact V12
    isplitl [V9]; · iexact V9
    isplitl [V13]; · iexact V13
    iexact V10
  isplitl [X12 X9 X13 X10]
  · isplitl [X12]; · iexact X12
    isplitl [X9]; · iexact X9
    isplitl [X13]; · iexact X13
    iexact X10
  isplitl [HW]; · iexact HW
  isplitl [Z1]; · iexact Z1
  isplitl [E10 E_0 E_7 E_1]
  · isplitl [E10]; · iexact E10
    isplitl [E_0]; · iexact E_0
    isplitl [E_7]; · iexact E_7
    iexact E_1
  isplitl [F1]; · iexact F1
  iexact F0

/-- The wait for the device's own rows on their way to the result. -/
theorem wp_ownwait {v : S1024x2048.Idx → Elt F .f32} {gO : S4096x2048.Idx → Elt F .f32} {g3 : S1024x2048.Idx → Elt F .f32} {W : Waits sig Unit}
    {sp sp' : Space} {s₁ s₂ : Shape} {e₁ e₂ : EltTy} {src : Memref sig .tc sp' s₁ e₁} {dst : Memref sig .tc sp s₂ e₂}
    {hsrc : src.view.WordExact} {hdst : dst.view.WordExact} (hN : dst.view.dmaCredit = 262144)
    {k : PUnit → Prog (TpuEff nD τ sig (Elt F) Λ₀ .tc) PUnit} {Q : PUnit → sProp 𝕄} :
    iprop(OwnFlight c v gO g3 ∗ owes (c : Thread nD τ) 0 W)
      ⊢ iprop((∀ W', (owes (c : Thread nD τ) 0 W' ∗ semVal ((c : Thread nD τ), .dma (39 : DmaSem sig)) 0 ∗ Done c (ownW c) v
          ∗ (∃ g, ((Memref.whole cc0_scratch3).view.loc (c : Thread nD τ) ↦[Finset.univ]{fullShare} g))) -∗ wpB c (k ⟨⟩) Q)
        -∗ wpB c (.op (.waitDma2 (39 : DmaSem sig) src dst hsrc hdst) k) Q) := by
  unfold wpB OwnFlight
  iintro ⟨⟨HF, -⟩, HO⟩ Hk
  iapply (Transfers.wp_waitLocal countersEmb 𝒱₀ (c : Thread nD τ) none () hN) $$ [HF HO]
  · isplitl [HF] <;> iassumption
  iintro ⟨⟨HD, H3⟩, HV, HO⟩
  iapply Hk
  isplitl [HO]; · iexact HO
  isplitl [HV]; · iexact HV
  isplitl [HD]
  · unfold Done
    iexists _
    isplitl [HD]; · iexact HD
    ipureintro
    funext i
    have h := View.read_writes_cons_emb (Val := Elt F) (ownW c).view gO (Rect.whole S1024x2048) v [] i
    rw [Rect.emb_whole_apply] at h
    exact h
  · iexists g3
    rw [show (Memref.whole cc0_scratch3).view.set = Finset.univ from View.set_whole _]
    iexact H3

set_option maxHeartbeats 8000000 in
/-- The last rows of the opposite device's block, and the waits for everything on its way to the result. -/
theorem wp_part24 (W : Waits sig Unit) (v4 v6 v8 : BitVec 32) {vo : S1024x2048.Idx → Elt F .f32} {gO : S4096x2048.Idx → Elt F .f32} {g3 : S1024x2048.Idx → Elt F .f32} (s : F .f32) (w : S4096x2048.Idx → Elt F .fp8e5m2) {k : _ → Prog (TpuEff nD τ sig (Elt F) Λ₀ .tc) PUnit} {Q : PUnit → sProp 𝕄} :
    iprop(records m K ∗ levAts L lv ∗ owes (c : Thread nD τ) 0 W ∗ (RecvTok c 14 ∗ RecvTok c 11 ∗ RecvTok c 15) ∗ ((Memref.whole cc0_scratch1).view.loc (c : Thread nD τ) ↦[Finset.univ]{fullShare} w) ∗ (Blank (F := F) c (out3 c 5) ∗ Blank (F := F) c (out3 c 3) ∗ Blank (F := F) c (out3 c 4)) ∗ OutFlight c ((38 : DmaSem sig)) 32768 (out3 c 6) (val3 m c s w 6) (slot128 1) ∗ OutFlight c ((37 : DmaSem sig)) 32768 (out3 c 2) (val3 m c s w 2) (slot128 0) ∗ OwnFlight c vo gO g3 ∗ Sent c 0)
      ⊢ iprop((∀ W', (owes (c : Thread nD τ) 0 W' ∗ (semVal (recvCell c 14) 0 ∗ semVal (recvCell c 11) 0 ∗ semVal (recvCell c 15) 0) ∗ (landPts m c 14 ∗ landPts m c 11 ∗ landPts m c 15) ∗ ((Memref.whole cc0_scratch1).view.loc (c : Thread nD τ) ↦[Finset.univ]{fullShare} w) ∗ (Slot (F := F) c (slot128 0) ∗ Slot (F := F) c (slot128 1)) ∗ (Done c (out3 c 6) (val3 m c s w 6) ∗ Done c (out3 c 2) (val3 m c s w 2) ∗ Done c (out3 c 5) (val3 m c s w 5) ∗ Done c (out3 c 3) (val3 m c s w 3) ∗ Done c (out3 c 4) (val3 m c s w 4)) ∗ Done c (ownW c) vo ∗ (∃ g, ((Memref.whole cc0_scratch3).view.loc (c : Thread nD τ) ↦[Finset.univ]{fullShare} g)) ∗ (semVal ((c : Thread nD τ), .dma (37 : DmaSem sig)) 0 ∗ semVal ((c : Thread nD τ), .dma (38 : DmaSem sig)) 0 ∗ semVal ((c : Thread nD τ), .dma (39 : DmaSem sig)) 0) ∗ semVal (sendCell c 0) 0 ∗ srcPts m c 0) -∗ wpB c (k ⟨⟩) Q)
          -∗ wpB c (onBufs (k0_part24 (F := F)) c v6 v8 s >>= fun _ => onBufs (k0_part25 (F := F)) c v4 v8 s >>= fun _ => onBufs (k0_part26 (F := F)) c v6 v8 s >>= fun _ => onBufs (k0_part27 (F := F)) c >>= k) Q) := by
  unfold onBufs
  rw [k0_part24_eq_skeleton, k0_part25_eq_skeleton, k0_part26_eq_skeleton, k0_part27_eq_skeleton]
  unfold k0_part24_skel k0_part25_skel k0_part26_skel k0_part27_skel
  conv => enter [2]; simp only [Prog.lift, Prog.bind_op, Prog.bind_ret, Prog.pure_eq_ret]
  iintro ⟨#HR, #HL, HO, ⟨T14, T11, T15⟩, HW, ⟨B_5, B_3, B_4⟩, F1, F0, HOwn, N0⟩ Hk
  iapply (wp_round m c K 14 32768 w (val3 m c s w 5) W (by rfl) (by rfl) (by rfl) (by rfl) (by decide) (by exact le_of_eq (unit_set_congr (by decide) (by decide) _ _)) (by exact Finset.Subset.refl _) (by exact fun i => pay128 s _ w _ i)) $$ [HO T14 F1 HW B_5]
  · isplitr; · iexact HR
    isplitr; · iexact HL
    isplitl [HO]; · iexact HO
    isplitl [T14]; · iexact T14
    isplitl [F1]; · iexact F1
    isplitl [HW] <;> iassumption
  iintro %W13 ⟨HO, ⟨V14, X14⟩, E_6, -, HW, F1⟩
  iapply (wp_round m c K 11 32768 w (val3 m c s w 3) W13 (by rfl) (by rfl) (by rfl) (by rfl) (by decide) (by exact le_of_eq (unit_set_congr (by decide) (by decide) _ _)) (by exact Finset.Subset.refl _) (by exact fun i => pay128 s _ w _ i)) $$ [HO T11 F0 HW B_3]
  · isplitr; · iexact HR
    isplitr; · iexact HL
    isplitl [HO]; · iexact HO
    isplitl [T11]; · iexact T11
    isplitl [F0]; · iexact F0
    isplitl [HW] <;> iassumption
  iintro %W14 ⟨HO, ⟨V11, X11⟩, E_2, -, HW, F0⟩
  iapply (wp_round m c K 15 32768 w (val3 m c s w 4) W14 (by rfl) (by rfl) (by rfl) (by rfl) (by decide) (by exact le_of_eq (unit_set_congr (by decide) (by decide) _ _)) (by exact Finset.Subset.refl _) (by exact fun i => pay128 s _ w _ i)) $$ [HO T15 F1 HW B_4]
  · isplitr; · iexact HR
    isplitr; · iexact HL
    isplitl [HO]; · iexact HO
    isplitl [T15]; · iexact T15
    isplitl [F1]; · iexact F1
    isplitl [HW] <;> iassumption
  iintro %W15 ⟨HO, ⟨V15, X15⟩, E_5, -, HW, F1⟩
  iapply (wp_ownwait c (by rfl)) $$ [HOwn HO]
  · isplitl [HOwn]; · iexact HOwn
    iexact HO
  iintro %Wo ⟨HO, V39, EO, H3⟩
  iapply (wp_outwait c Wo (by rfl)) $$ [F0 HO]
  · isplitl [F0]; · iexact F0
    iexact HO
  iintro %Wp0 ⟨HO, V37, E_3, Z0⟩
  iapply (wp_outwait c Wp0 (by rfl)) $$ [F1 HO]
  · isplitl [F1]; · iexact F1
    iexact HO
  iintro %Wp1 ⟨HO, V38, E_4, Z1⟩
  iapply (wp_send_wait m K c 0 Wp1 (by rfl) (by rfl)) $$ [HO N0]
  · isplitr; · iexact HR
    isplitl [HO] <;> iassumption
  iintro %Wq ⟨HO, V0, S0⟩
  iapply Hk
  isplitl [HO]; · iexact HO
  isplitl [V14 V11 V15]
  · isplitl [V14]; · iexact V14
    isplitl [V11]; · iexact V11
    iexact V15
  isplitl [X14 X11 X15]
  · isplitl [X14]; · iexact X14
    isplitl [X11]; · iexact X11
    iexact X15
  isplitl [HW]; · iexact HW
  isplitl [Z0 Z1]
  · isplitl [Z0]; · iexact Z0
    iexact Z1
  isplitl [E_6 E_2 E_5 E_3 E_4]
  · isplitl [E_6]; · iexact E_6
    isplitl [E_2]; · iexact E_2
    isplitl [E_5]; · iexact E_5
    isplitl [E_3]; · iexact E_3
    iexact E_4
  isplitl [EO]; · iexact EO
  isplitl [H3]; · iexact H3
  isplitl [V37 V38 V39]
  · isplitl [V37]; · iexact V37
    isplitl [V38]; · iexact V38
    iexact V39
  isplitl [V0]; · iexact V0
  iexact S0

end Opposite

end Cert.Gather

end
-- ==== Proof.Pieces.lean ====
/-
Buffers in pieces: what each copy and each block of rows takes, and the buffers got back at the end.
-/
module

public import proofs.«01_k».proof.Proof.Turns

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Pieces
variable (c : Dev nD)

/-! ## The communication buffer -/

/-- The places of a copy's block: its plane and its rows. -/
theorem mem_cset (i : Fin 16) (y : S3x1024x4096.Idx) : y ∈ cset i ↔ (y 0).val = pl i ∧ lo i ≤ (y 1).val ∧ (y 1).val < lo i + nr i := mem_rows (inbC i) y

/-- The blocks of two copies are in different planes or have different rows. -/
theorem csets_apart : ∀ i j : Fin 16, i ≠ j → pl i ≠ pl j ∨ lo i + nr i ≤ lo j ∨ lo j + nr j ≤ lo i := by decide

/-- The blocks the sixteen copies write have no element in common, -/
theorem cset_disjoint (i j : Fin 16) (h : i ≠ j) : Disjoint (cset i) (cset j) := by
  rw [Finset.disjoint_left]
  intro y hy hy'
  rw [mem_cset] at hy hy'
  have := csets_apart i j h
  omega

/-- and make up the whole buffer. -/
theorem cset_cover : (Finset.univ : Finset (Fin 16)).biUnion cset = Finset.univ := by
  ext y
  simp only [Finset.mem_biUnion, Finset.mem_univ, true_and, iff_true]
  have h0 : (y 0).val < 3 := (y 0).isLt
  have h1 : (y 1).val < 1024 := (y 1).isLt
  rcases (show (y 0).val = 0 ∨ (y 0).val = 1 ∨ (y 0).val = 2 by omega) with h | h | h
  · refine ⟨⟨(y 1).val / 256, by omega⟩, (mem_cset _ y).2 ?_⟩
    simp only [pl, lo, nr]
    split_ifs <;> omega
  · refine ⟨⟨7 - (y 1).val / 256, by omega⟩, (mem_cset _ y).2 ?_⟩
    simp only [pl, lo, nr]
    split_ifs <;> omega
  · by_cases hh : (y 1).val < 512
    · refine ⟨⟨8 + (y 1).val / 128, by omega⟩, (mem_cset _ y).2 ?_⟩
      simp only [pl, lo, nr]
      split_ifs <;> omega
    · refine ⟨⟨19 - (y 1).val / 128, by omega⟩, (mem_cset _ y).2 ?_⟩
      simp only [pl, lo, nr]
      split_ifs <;> omega

omit [FloatOps F] in
/-- A block of the communication buffer is what the copy that writes it needs. -/
theorem comm_piece (f : S3x1024x4096.Idx → Elt F .fp8e5m2) (i : Fin 16) (d : Dev nD) (h : tgt d i = c) : (locC c ↦[cset i]{fullShare} f : sProp 𝕄) ⊢ dstPts d i := by
  subst h
  unfold dstPts
  iintro H
  iexists f
  iexact H

omit [FloatOps F] in
/-- The buffer handed out: to each neighbour the blocks it writes. -/
theorem comm_out : iprop(∃ f, locC c ↦[Finset.univ]{fullShare} f) ⊢ (iprop(barPay (lft c) false ∗ barPay (rgt c) true) : sProp 𝕄) := by
  iintro ⟨%f, H⟩
  have e : (locC c ↦[Finset.univ]{fullShare} f : sProp 𝕄) = iprop(bigSep (Finset.univ.filter fun i : Fin 16 => goesLeft i = false) (fun i => locC c ↦[cset i]{fullShare} f)
      ∗ bigSep (Finset.univ.filter fun i : Fin 16 => ¬ goesLeft i = false) (fun i => locC c ↦[cset i]{fullShare} f)) := by
    rw [← cset_cover, pointsTo_biUnion _ _ (fun i _ j _ h => cset_disjoint i j h)]
    exact bigSep_filter_split Finset.univ (fun i : Fin 16 => goesLeft i = false)
  ihave H := (Entails.of_eq e) $$ H
  icases H with ⟨H1, H2⟩
  isplitl [H1]
  · iapply (show bigSep (Finset.univ.filter fun i : Fin 16 => goesLeft i = false) (fun i => locC c ↦[cset i]{fullShare} f) ⊢ (barPay (F := F) (lft c) false : sProp 𝕄) from
      bigSep_mono fun i hi => comm_piece c f i (lft c) (by
        unfold tgt; rw [show goesLeft i = false from (Finset.mem_filter.1 hi).2]; exact rgt_lft c)) $$ H1
  · iapply (show bigSep (Finset.univ.filter fun i : Fin 16 => ¬ goesLeft i = false) (fun i => locC c ↦[cset i]{fullShare} f) ⊢ (barPay (F := F) (rgt c) true : sProp 𝕄) from by
      unfold barPay
      rw [show (Finset.univ.filter fun i : Fin 16 => ¬ goesLeft i = false) = Finset.univ.filter fun i : Fin 16 => goesLeft i = true from by decide]
      exact bigSep_mono fun i hi => comm_piece c f i (rgt c) (by
        unfold tgt; rw [show goesLeft i = true from (Finset.mem_filter.1 hi).2]; exact lft_rgt c)) $$ H2

/-- The buffer got back, once all sixteen blocks have landed. -/
theorem comm_back : iprop(landPts m c 0 ∗ landPts m c 1 ∗ landPts m c 2 ∗ landPts m c 3 ∗ landPts m c 4 ∗ landPts m c 5 ∗ landPts m c 6 ∗ landPts m c 7 ∗ landPts m c 8 ∗ landPts m c 9 ∗ landPts m c 10 ∗ landPts m c 11 ∗ landPts m c 12 ∗ landPts m c 13 ∗ landPts m c 14 ∗ landPts m c 15) ⊢ (iprop(∃ f, locC c ↦[Finset.univ]{fullShare} f) : sProp 𝕄) := by
  have h : (locC c ↦[Finset.univ]{fullShare} cC m c : sProp 𝕄) = bigSep Finset.univ fun i => landPts m c i := by
    rw [← cset_cover, pointsTo_biUnion _ _ (fun i _ j _ h => cset_disjoint i j h)]; rfl
  rw [bigSep_eq_bigSepL_of_eq [0, 1, 2, 3, 4, 5, 6, 7, 8, 9, 10, 11, 12, 13, 14, 15] (by decide) (by decide)] at h
  simp only [bigSepL_cons_cons, bigSepL_singleton] at h
  iintro H
  iexists (cC m c)
  rw [h]
  iexact H

/-! ## The staged block of `x` -/

/-- The places of a first-hop copy's source: its rows. -/
theorem mem_xset (i : Fin 16) (y : S1024x4096.Idx) : y ∈ xset i ↔ lo i ≤ (y 0).val ∧ (y 0).val < lo i + nr i := by
  have h2 : (y 1).val < 4096 := (y 1).isLt
  unfold xset
  rw [Rect.mem_set_unit, Fin.forall_fin_succ, Fin.forall_fin_succ]
  show (lo i ≤ (y 0).val ∧ (y 0).val < lo i + nr i) ∧ ((0 : ℕ) ≤ (y 1).val ∧ (y 1).val < 0 + 4096) ∧ _ ↔ _
  exact ⟨fun h => h.1, fun h => ⟨h, ⟨by omega, by omega⟩, fun i => i.elim0⟩⟩

/-- The sources of two first-hop copies in one direction have different rows. -/
theorem xsets_apart : ∀ i j : Fin 16, i ≠ j → i.val < 8 → j.val < 8 → goesLeft i = goesLeft j → lo i + nr i ≤ lo j ∨ lo j + nr j ≤ lo i := by decide

/-- So they have no element in common, -/
theorem xset_disjoint (i j : Fin 16) (h : i ≠ j) (hi : i.val < 8) (hj : j.val < 8) (hg : goesLeft i = goesLeft j) : Disjoint (xset i) (xset j) := by
  rw [Finset.disjoint_left]
  intro y hy hy'
  rw [mem_xset] at hy hy'
  have := xsets_apart i j h hi hj hg
  omega

/-- and four of 256 rows make up the staged block. -/
theorem xset_cover (S : Finset (Fin 16)) (hS : ∀ r : Fin 4, ∃ i ∈ S, lo i = 256 * r.val ∧ nr i = 256) : S.biUnion xset = Finset.univ := by
  ext y
  simp only [Finset.mem_biUnion, Finset.mem_univ, iff_true]
  have h0 : (y 0).val < 1024 := (y 0).isLt
  obtain ⟨i, hi, hl, hn⟩ := hS ⟨(y 0).val / 256, by omega⟩
  refine ⟨i, hi, (mem_xset i y).2 ?_⟩
  rw [hl, hn]
  show 256 * ((y 0).val / 256) ≤ _ ∧ _ < 256 * ((y 0).val / 256) + 256
  omega

/-- The staged block held by halves: one for the device's own products, of the other a half each for the copies to the
    left and for those to the right. -/
theorem x_shares : (locX c ↦[Finset.univ]{fullShare} xC m c : sProp 𝕄)
    ⊣⊢ iprop((locX c ↦[Finset.univ]{fullShare.left} xC m c) ∗ (srcPts m c 0 ∗ srcPts m c 1 ∗ srcPts m c 2 ∗ srcPts m c 3) ∗ (srcPts m c 4 ∗ srcPts m c 5 ∗ srcPts m c 6 ∗ srcPts m c 7)) := by
  have hL : (locX c ↦[Finset.univ]{fullShare.right.left} xC m c : sProp 𝕄) = iprop(srcPts m c 0 ∗ srcPts m c 1 ∗ srcPts m c 2 ∗ srcPts m c 3) := by
    have hm : ∀ i ∈ ([0, 1, 2, 3] : List (Fin 16)).toFinset, i.val < 8 ∧ goesLeft i = true := by decide
    rw [← xset_cover ([0, 1, 2, 3] : List (Fin 16)).toFinset (by decide), pointsTo_biUnion _ _ (fun i hi j hj h => xset_disjoint i j h
      (hm i hi).1 (hm j hj).1 ((hm i hi).2.trans (hm j hj).2.symm)), bigSep_eq_bigSepL_of_eq [0, 1, 2, 3] rfl (by decide)]
    simp only [bigSepL_cons_cons, bigSepL_singleton]
    rfl
  have hR : (locX c ↦[Finset.univ]{fullShare.right.right} xC m c : sProp 𝕄) = iprop(srcPts m c 4 ∗ srcPts m c 5 ∗ srcPts m c 6 ∗ srcPts m c 7) := by
    have hm : ∀ i ∈ ([4, 5, 6, 7] : List (Fin 16)).toFinset, i.val < 8 ∧ goesLeft i = false := by decide
    rw [← xset_cover ([4, 5, 6, 7] : List (Fin 16)).toFinset (by decide), pointsTo_biUnion _ _ (fun i hi j hj h => xset_disjoint i j h
      (hm i hi).1 (hm j hj).1 ((hm i hi).2.trans (hm j hj).2.symm)), bigSep_eq_bigSepL_of_eq [4, 5, 6, 7] rfl (by decide)]
    simp only [bigSepL_cons_cons, bigSepL_singleton]
    rfl
  rw [← hL, ← hR]
  exact (pointsTo_share (PosShare.mem_left_op_right fullShare)).trans (sep_congr_right (pointsTo_share (PosShare.mem_left_op_right fullShare.right)))

/-! ## The staging slots -/

omit [FloatOps F] in
/-- Two disjoint parts of the staging buffer together. -/
theorem slot_join {A B : Finset S2x512x2048.Idx} (h : Disjoint A B) : iprop(Slot (F := F) c A ∗ Slot (F := F) c B) ⊢ Slot (F := F) c (A ∪ B) := by
  unfold Slot
  iintro ⟨⟨%f, H⟩, ⟨%g, H'⟩⟩
  iexists (B.piecewise g f)
  iapply (pointsTo_join h) $$ [H H']
  isplitl [H] <;> iassumption

/-- What of the buffer the blocks are sent from is in no slot. -/
def slotRest : Finset S2x512x2048.Idx := (Finset.univ \ slot256 0) \ slot256 1

/-- The second slot is outside the first. -/
theorem slot_apart : slot256 1 ⊆ Finset.univ \ slot256 0 := by
  intro y hy
  rw [Finset.mem_sdiff]
  refine ⟨Finset.mem_univ _, fun h => ?_⟩
  unfold slot256 at hy h
  rw [Rect.mem_set_unit] at hy h
  have h1 := (hy 0).1
  have h2 := (h 0).2
  have h3 : 1 ≤ (y 0).val := h1
  have h4 : (y 0).val < 0 + 1 := h2
  omega

omit [FloatOps F] in
/-- The staging buffer cut into its two slots and the rest, -/
theorem slots_out : Slot (F := F) c Finset.univ ⊢ iprop((Slot c (slot256 0) ∗ Slot c (slot256 1)) ∗ Slot c slotRest) := by
  iintro H
  ihave H := (slot_part c (Finset.subset_univ (slot256 0))) $$ H
  icases H with ⟨H0, H⟩
  ihave H := (slot_part c slot_apart) $$ H
  icases H with ⟨H1, H⟩
  isplitl [H0 H1]
  · isplitl [H0] <;> iassumption
  iexact H

omit [FloatOps F] in
/-- and put together again, after the smaller blocks. -/
theorem slots_back : iprop(Slot (F := F) c (slot128 0) ∗ Slot (F := F) c (slot128 1) ∗ Slot (F := F) c (slot256 0 \ slot128 0) ∗ Slot (F := F) c (slot256 1 \ slot128 1) ∗ Slot (F := F) c slotRest) ⊢ Slot (F := F) c Finset.univ := by
  iintro ⟨H0, H1, H0', H1', H⟩
  ihave H0 := (slot_join c Finset.disjoint_sdiff) $$ [H0 H0']
  · isplitl [H0]; · iexact H0
    iexact H0'
  ihave H1 := (slot_join c Finset.disjoint_sdiff) $$ [H1 H1']
  · isplitl [H1]; · iexact H1
    iexact H1'
  rw [Finset.union_sdiff_of_subset (slot_sub 0), Finset.union_sdiff_of_subset (slot_sub 1)]
  ihave H1 := (slot_join c (B := slotRest) Finset.disjoint_sdiff) $$ [H1 H]
  · isplitl [H1]; · iexact H1
    iexact H
  ihave H0 := (slot_join c (A := slot256 0) (B := slot256 1 ∪ slotRest) (by
    unfold slotRest; rw [Finset.union_sdiff_of_subset slot_apart]; exact Finset.disjoint_sdiff)) $$ [H0 H1]
  · isplitl [H0]; · iexact H0
    iexact H1
  unfold slotRest
  rw [Finset.union_sdiff_of_subset slot_apart, Finset.union_sdiff_of_subset (Finset.subset_univ _)]
  iexact H0

/-! ## The slots of the weights -/

/-- The second slot of the weights is what the first leaves of their buffer. -/
theorem wst_sets : wst1.view.set = Finset.univ \ wst0.view.set := by
  have e0 : wst0.view.set = (Rect.unit (s := S2x1024x2048) ![0, 0, 0] S1x1024x2048.size inb_S2x1024x2048_S1x1024x2048_0_0_0).set := (View.set_reshape _ _).trans (View.set_slice_whole cc0_scratch2 _)
  have e1 : wst1.view.set = (Rect.unit (s := S2x1024x2048) ![1, 0, 0] S1x1024x2048.size inb_S2x1024x2048_S1x1024x2048_1_0_0).set := (View.set_reshape _ _).trans (View.set_slice_whole cc0_scratch2 _)
  rw [e0, e1]
  ext y
  rw [Finset.mem_sdiff, Rect.mem_set_unit, Rect.mem_set_unit, Fin.forall_fin_succ, Fin.forall_fin_succ, Fin.forall_fin_succ, Fin.forall_fin_succ, Fin.forall_fin_succ, Fin.forall_fin_succ]
  have h0 : (y 0).val < 2 := (y 0).isLt
  have h1 : (y 1).val < 1024 := (y 1).isLt
  have h2 : (y 2).val < 2048 := (y 2).isLt
  show ((1 : ℕ) ≤ (y 0).val ∧ (y 0).val < 1 + 1) ∧ ((0 : ℕ) ≤ (y 1).val ∧ (y 1).val < 0 + 1024) ∧ ((0 : ℕ) ≤ (y 2).val ∧ (y 2).val < 0 + 2048) ∧ _
    ↔ y ∈ Finset.univ ∧ ¬ (((0 : ℕ) ≤ (y 0).val ∧ (y 0).val < 0 + 1) ∧ ((0 : ℕ) ≤ (y 1).val ∧ (y 1).val < 0 + 1024) ∧ ((0 : ℕ) ≤ (y 2).val ∧ (y 2).val < 0 + 2048) ∧ _)
  constructor
  · rintro ⟨ha, -⟩
    exact ⟨Finset.mem_univ _, fun h => by have := h.1; omega⟩
  · rintro ⟨-, h⟩
    refine ⟨?_, by omega, by omega, fun i => i.elim0⟩
    by_contra hn
    exact h ⟨by omega, by omega, by omega, fun i => i.elim0⟩

/-! ## The result -/

/-- The first row of each of the seventeen blocks of the result, and how many there are. -/
def oLo (c : Dev nD) (j : Fin 17) : ℕ :=
  if j.val = 0 then 1024 * c.val else if j.val < 9 then 1024 * ((c.val + 2 * ((j.val - 1) / 4) + 1) % 4) + 256 * ((j.val - 1) % 4) else 1024 * ((c.val + 2) % 4) + 128 * (j.val - 9)
/-- How many rows a block of the result has. -/
def oN (j : Fin 17) : ℕ := if j.val = 0 then 1024 else if j.val < 9 then 256 else 128
/-- The places of a block of the result. -/
def oset (c : Dev nD) (j : Fin 17) : Finset S4096x2048.Idx := Finset.univ.filter fun y => oLo c j ≤ (y 0).val ∧ (y 0).val < oLo c j + oN j

/-- Two blocks of the result have different rows, -/
theorem osets_apart : ∀ (c : Dev nD) (i j : Fin 17), i ≠ j → oLo c i + oN i ≤ oLo c j ∨ oLo c j + oN j ≤ oLo c i := by decide +kernel

/-- so no element in common. -/
theorem oset_disjoint (i j : Fin 17) (h : i ≠ j) : Disjoint (oset c i) (oset c j) := by
  rw [Finset.disjoint_left]
  intro y hy hy'
  have h1 := (Finset.mem_filter.1 hy).2
  have h2 := (Finset.mem_filter.1 hy').2
  have := osets_apart c i j h
  omega

/-- The places of a window of rows that starts and ends where a block does. -/
theorem rows_oset {off : Fin 2 → ℕ} {n : ℕ} (j : Fin 17) (hoff : off = ![oLo c j, 0]) (hn : n = oN j) (h : ∀ a, off a + (![n, 2048] : Fin 2 → ℕ) a ≤ S4096x2048.size a) :
    (Rect.unit (s := S4096x2048) off ![n, 2048] h).set = oset c j := by
  subst hoff hn
  ext y
  have h2 : (y 1).val < 2048 := (y 1).isLt
  unfold oset
  rw [Rect.mem_set_unit, Finset.mem_filter, Fin.forall_fin_succ, Fin.forall_fin_succ]
  show (oLo c j ≤ (y 0).val ∧ (y 0).val < oLo c j + oN j) ∧ ((0 : ℕ) ≤ (y 1).val ∧ (y 1).val < 0 + 2048) ∧ _ ↔ _
  exact ⟨fun h => ⟨Finset.mem_univ _, h.1⟩, fun h => ⟨h.2, ⟨by omega, by omega⟩, fun i => i.elim0⟩⟩

/-- The window for the device's own rows is the first block. -/
theorem own_set : (ownW c).view.set = oset c 0 :=
  (View.set_slice_whole main_v1 _).trans (rows_oset c 0 ((Gen.k0_off1_eq c).trans (by unfold oLo; rfl)) rfl _)
/-- Where a block of a neighbour's rows starts. -/
theorem oLo_2 (a : Fin 2) (b : Fin 4) : oLo c ⟨1 + 4 * a.val + b.val, by omega⟩ = 1024 * ((c.val + 2 * a.val + 1) % 4) + 256 * b.val := by
  unfold oLo
  dsimp only
  rw [if_neg (by omega), if_pos (by omega), show (1 + 4 * a.val + b.val - 1) / 4 = a.val by omega, show (1 + 4 * a.val + b.val - 1) % 4 = b.val by omega]
/-- Where a block of the opposite device's rows starts. -/
theorem oLo_3 (r : Fin 8) : oLo c ⟨9 + r.val, by omega⟩ = 1024 * ((c.val + 2) % 4) + 128 * r.val := by
  unfold oLo
  dsimp only
  rw [if_neg (by omega), if_neg (by omega), show 9 + r.val - 9 = r.val by omega]
/-- It has 256 rows. -/
theorem oN_2 (a : Fin 2) (b : Fin 4) : 256 = oN ⟨1 + 4 * a.val + b.val, by omega⟩ := by
  unfold oN
  dsimp only
  rw [if_neg (by omega), if_pos (by omega)]
/-- It has 128 rows. -/
theorem oN_3 (r : Fin 8) : 128 = oN ⟨9 + r.val, by omega⟩ := by
  unfold oN
  dsimp only
  rw [if_neg (by omega), if_neg (by omega)]
/-- The window for a block of a neighbour's rows is its block. -/
theorem out2_set (a : Fin 2) (b : Fin 4) : (out2 c a b).view.set = oset c ⟨1 + 4 * a.val + b.val, by omega⟩ :=
  (View.set_slice_whole main_v1 _).trans (rows_oset c _ ((Gen.k0_off2_eq c a b).trans (by rw [oLo_2])) (oN_2 a b) _)
/-- The window for a block of the opposite device's rows is its block. -/
theorem out3_set (r : Fin 8) : (out3 c r).view.set = oset c ⟨9 + r.val, by omega⟩ :=
  (View.set_slice_whole main_v1 _).trans (rows_oset c _ ((Gen.k0_off3_eq c r).trans (by rw [oLo_3])) (oN_3 r) _)

omit [FloatOps F] in
/-- The result in its seventeen blocks of rows. -/
theorem result_out (gO : S4096x2048.Idx → Elt F .f32) : ((Memref.whole main_v1).view.loc (c : Thread nD τ) ↦[Finset.univ]{fullShare} gO : sProp 𝕄)
    ⊢ iprop(((ownW c).view.loc (c : Thread nD τ) ↦[(ownW c).view.set]{fullShare} gO)
      ∗ (Blank (F := F) c (out2 c 0 0) ∗ Blank (F := F) c (out2 c 0 1) ∗ Blank (F := F) c (out2 c 0 2) ∗ Blank (F := F) c (out2 c 0 3) ∗ Blank (F := F) c (out2 c 1 0) ∗ Blank (F := F) c (out2 c 1 1) ∗ Blank (F := F) c (out2 c 1 2) ∗ Blank (F := F) c (out2 c 1 3))
      ∗ (Blank (F := F) c (out3 c 0) ∗ Blank (F := F) c (out3 c 1) ∗ Blank (F := F) c (out3 c 2) ∗ Blank (F := F) c (out3 c 3) ∗ Blank (F := F) c (out3 c 4) ∗ Blank (F := F) c (out3 c 5) ∗ Blank (F := F) c (out3 c 6) ∗ Blank (F := F) c (out3 c 7))) := by
  have e : (((Memref.whole main_v1).view.loc (c : Thread nD τ) ↦[(Finset.univ : Finset (Fin 17)).biUnion (oset c)]{fullShare} gO) : sProp 𝕄) = bigSep Finset.univ fun j => ((Memref.whole main_v1).view.loc (c : Thread nD τ) ↦[oset c j]{fullShare} gO) :=
    pointsTo_biUnion _ _ (fun i _ j _ h => oset_disjoint c i j h)
  rw [bigSep_eq_bigSepL_of_eq [0, 1, 2, 3, 4, 5, 6, 7, 8, 9, 10, 11, 12, 13, 14, 15, 16] (by decide) (by decide)] at e
  simp only [bigSepL_cons_cons, bigSepL_singleton] at e
  have b2 : ∀ (j : Fin 17) (a : Fin 2) (b : Fin 4), (⟨1 + 4 * a.val + b.val, by omega⟩ : Fin 17) = j → ((Memref.whole main_v1).view.loc (c : Thread nD τ) ↦[oset c j]{fullShare} gO : sProp 𝕄) ⊢ Blank c (out2 c a b) := by
    intro j a b hj
    subst hj
    unfold Blank
    rw [out2_set]
    iintro H
    iexists gO; iexact H
  have b3 : ∀ (j : Fin 17) (r : Fin 8), (⟨9 + r.val, by omega⟩ : Fin 17) = j → ((Memref.whole main_v1).view.loc (c : Thread nD τ) ↦[oset c j]{fullShare} gO : sProp 𝕄) ⊢ Blank c (out3 c r) := by
    intro j r hj
    subst hj
    unfold Blank
    rw [out3_set]
    iintro H
    iexists gO; iexact H
  iintro H
  ihave H := (pointsTo_split_subset (Finset.subset_univ ((Finset.univ : Finset (Fin 17)).biUnion (oset c)))).1 $$ H
  icases H with ⟨H, -⟩
  have e' : (((Memref.whole main_v1).view.loc (c : Thread nD τ) ↦[(Finset.univ : Finset (Fin 17)).biUnion (oset c)]{fullShare} gO) : sProp 𝕄) ⊢ iprop(((Memref.whole main_v1).view.loc (c : Thread nD τ) ↦[oset c 0]{fullShare} gO) ∗ ((Memref.whole main_v1).view.loc (c : Thread nD τ) ↦[oset c 1]{fullShare} gO) ∗ ((Memref.whole main_v1).view.loc (c : Thread nD τ) ↦[oset c 2]{fullShare} gO) ∗ ((Memref.whole main_v1).view.loc (c : Thread nD τ) ↦[oset c 3]{fullShare} gO) ∗ ((Memref.whole main_v1).view.loc (c : Thread nD τ) ↦[oset c 4]{fullShare} gO) ∗ ((Memref.whole main_v1).view.loc (c : Thread nD τ) ↦[oset c 5]{fullShare} gO) ∗ ((Memref.whole main_v1).view.loc (c : Thread nD τ) ↦[oset c 6]{fullShare} gO) ∗ ((Memref.whole main_v1).view.loc (c : Thread nD τ) ↦[oset c 7]{fullShare} gO) ∗ ((Memref.whole main_v1).view.loc (c : Thread nD τ) ↦[oset c 8]{fullShare} gO) ∗ ((Memref.whole main_v1).view.loc (c : Thread nD τ) ↦[oset c 9]{fullShare} gO) ∗ ((Memref.whole main_v1).view.loc (c : Thread nD τ) ↦[oset c 10]{fullShare} gO) ∗ ((Memref.whole main_v1).view.loc (c : Thread nD τ) ↦[oset c 11]{fullShare} gO) ∗ ((Memref.whole main_v1).view.loc (c : Thread nD τ) ↦[oset c 12]{fullShare} gO) ∗ ((Memref.whole main_v1).view.loc (c : Thread nD τ) ↦[oset c 13]{fullShare} gO) ∗ ((Memref.whole main_v1).view.loc (c : Thread nD τ) ↦[oset c 14]{fullShare} gO) ∗ ((Memref.whole main_v1).view.loc (c : Thread nD τ) ↦[oset c 15]{fullShare} gO) ∗ ((Memref.whole main_v1).view.loc (c : Thread nD τ) ↦[oset c 16]{fullShare} gO)) := Entails.of_eq e
  ihave H := e' $$ H
  rw [own_set]
  icases H with ⟨H0, H1, H2, H3, H4, H5, H6, H7, H8, H9, H10, H11, H12, H13, H14, H15, H16⟩
  isplitl [H0]; · iexact H0
  isplitl [H1 H2 H3 H4 H5 H6 H7 H8]
  · isplitl [H1]; · iapply (b2 1 0 0 rfl) $$ H1
    isplitl [H2]; · iapply (b2 2 0 1 rfl) $$ H2
    isplitl [H3]; · iapply (b2 3 0 2 rfl) $$ H3
    isplitl [H4]; · iapply (b2 4 0 3 rfl) $$ H4
    isplitl [H5]; · iapply (b2 5 1 0 rfl) $$ H5
    isplitl [H6]; · iapply (b2 6 1 1 rfl) $$ H6
    isplitl [H7]; · iapply (b2 7 1 2 rfl) $$ H7
    iapply (b2 8 1 3 rfl) $$ H8
  isplitl [H9]; · iapply (b3 9 0 rfl) $$ H9
  isplitl [H10]; · iapply (b3 10 1 rfl) $$ H10
  isplitl [H11]; · iapply (b3 11 2 rfl) $$ H11
  isplitl [H12]; · iapply (b3 12 3 rfl) $$ H12
  isplitl [H13]; · iapply (b3 13 4 rfl) $$ H13
  isplitl [H14]; · iapply (b3 14 5 rfl) $$ H14
  isplitl [H15]; · iapply (b3 15 6 rfl) $$ H15
  iapply (b3 16 7 rfl) $$ H16

end Pieces

end Cert.Gather

end
-- ==== Proof.Body.lean ====
/-
One device's body from start to end.
-/
module

public import proofs.«01_k».proof.Proof.BodyEntry
public import proofs.«01_k».proof.Proof.Opposite
public import proofs.«01_k».proof.Proof.Pieces

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 33 → ℕ) (c : Dev nD)

/-- A program in sequence. -/
theorem wpB_bind {p : Prog (TpuEff nD τ sig (Elt F) Λ₀ .tc) PUnit} {k : PUnit → Prog (TpuEff nD τ sig (Elt F) Λ₀ .tc) PUnit} {Q : PUnit → sProp 𝕄} :
    wpB c p (fun a => wpB c (k a) Q) ⊢ wpB c (p >>= k) Q := by
  unfold wpB
  rw [wp_bind]

/-- The end of a program. -/
theorem wpB_end {Q : PUnit → sProp 𝕄} : Q ⟨⟩ ⊢ wpB c (Prog.ret (⟨⟩ : PUnit)) Q := by
  unfold wpB
  rw [wp_ret]
  iintro H
  imodintro
  iexact H

set_option maxHeartbeats 4000000 in
/-- The waits for the departure of copies 1 to 12. -/
theorem wp_part28 (W : Waits sig Unit) {k : _ → Prog (TpuEff nD τ sig (Elt F) Λ₀ .tc) PUnit} {Q : PUnit → sProp 𝕄} :
    iprop(records m K ∗ owes (c : Thread nD τ) 0 W ∗ Sent c 1 ∗ Sent c 2 ∗ Sent c 3 ∗ Sent c 4 ∗ Sent c 5 ∗ Sent c 6 ∗ Sent c 7 ∗ Sent c 8 ∗ Sent c 9 ∗ Sent c 10 ∗ Sent c 11 ∗ Sent c 12)
      ⊢ iprop((∀ W', (owes (c : Thread nD τ) 0 W' ∗ (semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0) ∗ (srcPts m c 1 ∗ srcPts m c 2 ∗ srcPts m c 3 ∗ srcPts m c 4 ∗ srcPts m c 5 ∗ srcPts m c 6 ∗ srcPts m c 7 ∗ srcPts m c 8 ∗ srcPts m c 9 ∗ srcPts m c 10 ∗ srcPts m c 11 ∗ srcPts m c 12)) -∗ wpB c (k ⟨⟩) Q)
          -∗ wpB c (onBufs (k0_part28 (F := F)) >>= fun _ => onBufs (k0_part29 (F := F)) >>= fun _ => onBufs (k0_part30 (F := F)) >>= k) Q) := by
  unfold onBufs
  rw [k0_part28_eq_skeleton, k0_part29_eq_skeleton, k0_part30_eq_skeleton]
  unfold k0_part28_skel k0_part29_skel k0_part30_skel
  simp only [Prog.lift, Prog.bind_op, Prog.bind_ret, Prog.pure_eq_ret]
  iintro ⟨#HR, HO, N1, N2, N3, N4, N5, N6, N7, N8, N9, N10, N11, N12⟩ Hk
  iapply (wp_send_wait m K c 1 W (by rfl) (by rfl)) $$ [HO N1]
  · isplitr; · iexact HR
    isplitl [HO]; · iexact HO
    iexact N1
  iintro %W1 ⟨HO, U1, S1⟩
  iapply (wp_send_wait m K c 2 W1 (by rfl) (by rfl)) $$ [HO N2]
  · isplitr; · iexact HR
    isplitl [HO]; · iexact HO
    iexact N2
  iintro %W2 ⟨HO, U2, S2⟩
  iapply (wp_send_wait m K c 3 W2 (by rfl) (by rfl)) $$ [HO N3]
  · isplitr; · iexact HR
    isplitl [HO]; · iexact HO
    iexact N3
  iintro %W3 ⟨HO, U3, S3⟩
  iapply (wp_send_wait m K c 4 W3 (by rfl) (by rfl)) $$ [HO N4]
  · isplitr; · iexact HR
    isplitl [HO]; · iexact HO
    iexact N4
  iintro %W4 ⟨HO, U4, S4⟩
  iapply (wp_send_wait m K c 5 W4 (by rfl) (by rfl)) $$ [HO N5]
  · isplitr; · iexact HR
    isplitl [HO]; · iexact HO
    iexact N5
  iintro %W5 ⟨HO, U5, S5⟩
  iapply (wp_send_wait m K c 6 W5 (by rfl) (by rfl)) $$ [HO N6]
  · isplitr; · iexact HR
    isplitl [HO]; · iexact HO
    iexact N6
  iintro %W6 ⟨HO, U6, S6⟩
  iapply (wp_send_wait m K c 7 W6 (by rfl) (by rfl)) $$ [HO N7]
  · isplitr; · iexact HR
    isplitl [HO]; · iexact HO
    iexact N7
  iintro %W7 ⟨HO, U7, S7⟩
  iapply (wp_send_wait m K c 8 W7 (by rfl) (by rfl)) $$ [HO N8]
  · isplitr; · iexact HR
    isplitl [HO]; · iexact HO
    iexact N8
  iintro %W8 ⟨HO, U8, S8⟩
  iapply (wp_send_wait m K c 9 W8 (by rfl) (by rfl)) $$ [HO N9]
  · isplitr; · iexact HR
    isplitl [HO]; · iexact HO
    iexact N9
  iintro %W9 ⟨HO, U9, S9⟩
  iapply (wp_send_wait m K c 10 W9 (by rfl) (by rfl)) $$ [HO N10]
  · isplitr; · iexact HR
    isplitl [HO]; · iexact HO
    iexact N10
  iintro %W10 ⟨HO, U10, S10⟩
  iapply (wp_send_wait m K c 11 W10 (by rfl) (by rfl)) $$ [HO N11]
  · isplitr; · iexact HR
    isplitl [HO]; · iexact HO
    iexact N11
  iintro %W11 ⟨HO, U11, S11⟩
  iapply (wp_send_wait m K c 12 W11 (by rfl) (by rfl)) $$ [HO N12]
  · isplitr; · iexact HR
    isplitl [HO]; · iexact HO
    iexact N12
  iintro %W12 ⟨HO, U12, S12⟩
  iapply Hk
  isplitl [HO]; · iexact HO
  isplitl [U1 U2 U3 U4 U5 U6 U7 U8 U9 U10 U11 U12]
  · isplitl [U1]; · iexact U1
    isplitl [U2]; · iexact U2
    isplitl [U3]; · iexact U3
    isplitl [U4]; · iexact U4
    isplitl [U5]; · iexact U5
    isplitl [U6]; · iexact U6
    isplitl [U7]; · iexact U7
    isplitl [U8]; · iexact U8
    isplitl [U9]; · iexact U9
    isplitl [U10]; · iexact U10
    isplitl [U11]; · iexact U11
    iexact U12
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  iexact S12

/-- The blocks of the result with their rows: the own ones, those of the neighbours, those of the opposite device. -/
def Written (c : Dev nD) (fA fB : S1.Idx → Elt F .f32) (fW : S4096x2048.Idx → Elt F .f32) : sProp 𝕄 :=
  iprop(Done c (ownW c) (ownVal (sc fA fB) (xC m c) (w8C fW))
    ∗ (Done c (out2 c 0 0) (val2 m c (sc fA fB) (w8C fW) 0 0) ∗ Done c (out2 c 0 1) (val2 m c (sc fA fB) (w8C fW) 0 1) ∗ Done c (out2 c 0 2) (val2 m c (sc fA fB) (w8C fW) 0 2) ∗ Done c (out2 c 0 3) (val2 m c (sc fA fB) (w8C fW) 0 3) ∗ Done c (out2 c 1 0) (val2 m c (sc fA fB) (w8C fW) 1 0) ∗ Done c (out2 c 1 1) (val2 m c (sc fA fB) (w8C fW) 1 1) ∗ Done c (out2 c 1 2) (val2 m c (sc fA fB) (w8C fW) 1 2) ∗ Done c (out2 c 1 3) (val2 m c (sc fA fB) (w8C fW) 1 3))
    ∗ (Done c (out3 c 0) (val3 m c (sc fA fB) (w8C fW) 0) ∗ Done c (out3 c 1) (val3 m c (sc fA fB) (w8C fW) 1) ∗ Done c (out3 c 2) (val3 m c (sc fA fB) (w8C fW) 2) ∗ Done c (out3 c 3) (val3 m c (sc fA fB) (w8C fW) 3) ∗ Done c (out3 c 4) (val3 m c (sc fA fB) (w8C fW) 4) ∗ Done c (out3 c 5) (val3 m c (sc fA fB) (w8C fW) 5) ∗ Done c (out3 c 6) (val3 m c (sc fA fB) (w8C fW) 6) ∗ Done c (out3 c 7) (val3 m c (sc fA fB) (w8C fW) 7)))

/-- What one device's body starts from, besides the operands: its tickets to signal, send and wait, and its scratch buffers. -/
def Tickets (c : Dev nD) : sProp 𝕄 :=
  iprop(BarTok (F := F) c ∗ dutyTok ER (barCell (lft c)) 0 false ∗ dutyTok ER (barCell (rgt c)) 0 true
    ∗ (SendTok (F := F) c 0 ∗ SendTok (F := F) c 1 ∗ SendTok (F := F) c 2 ∗ SendTok (F := F) c 3 ∗ SendTok (F := F) c 4 ∗ SendTok (F := F) c 5 ∗ SendTok (F := F) c 6 ∗ SendTok (F := F) c 7 ∗ SendTok (F := F) c 8 ∗ SendTok (F := F) c 9 ∗ SendTok (F := F) c 10 ∗ SendTok (F := F) c 11 ∗ SendTok (F := F) c 12 ∗ SendTok (F := F) c 13 ∗ SendTok (F := F) c 14 ∗ SendTok (F := F) c 15) ∗ (RecvTok (F := F) c 0 ∗ RecvTok (F := F) c 1 ∗ RecvTok (F := F) c 2 ∗ RecvTok (F := F) c 3 ∗ RecvTok (F := F) c 4 ∗ RecvTok (F := F) c 5 ∗ RecvTok (F := F) c 6 ∗ RecvTok (F := F) c 7 ∗ RecvTok (F := F) c 8 ∗ RecvTok (F := F) c 9 ∗ RecvTok (F := F) c 10 ∗ RecvTok (F := F) c 11 ∗ RecvTok (F := F) c 12 ∗ RecvTok (F := F) c 13 ∗ RecvTok (F := F) c 14 ∗ RecvTok (F := F) c 15))
/-- The device's scratch buffers and the semaphores of its local copies, whatever the buffers hold. -/
def Scratch (c : Dev nD) : sProp 𝕄 :=
  iprop((∃ f : S3x1024x4096.Idx → Elt F .fp8e5m2, locC c ↦[Finset.univ]{fullShare} f) ∗ (∃ f : S4096x2048.Idx → Elt F .fp8e5m2, ((Memref.whole cc0_scratch1).view.loc (c : Thread nD τ) ↦[Finset.univ]{fullShare} f)) ∗ (∃ f : S2x1024x2048.Idx → Elt F .f32, ((Memref.whole cc0_scratch2).view.loc (c : Thread nD τ) ↦[Finset.univ]{fullShare} f))
    ∗ (∃ f : S1024x2048.Idx → Elt F .f32, ((Memref.whole cc0_scratch3).view.loc (c : Thread nD τ) ↦[Finset.univ]{fullShare} f)) ∗ Slot (F := F) c Finset.univ)
/-- The counts of the copies inside the device, at zero. -/
def Counts (c : Dev nD) : sProp 𝕄 := iprop(semVal ((c : Thread nD τ), .dma (35 : DmaSem sig)) 0 ∗ semVal ((c : Thread nD τ), .dma (36 : DmaSem sig)) 0 ∗ semVal ((c : Thread nD τ), .dma (37 : DmaSem sig)) 0 ∗ semVal ((c : Thread nD τ), .dma (38 : DmaSem sig)) 0 ∗ semVal ((c : Thread nD τ), .dma (39 : DmaSem sig)) 0)
/-- The counts of the copies between devices and of the barrier, at zero. -/
def Spent (c : Dev nD) : sProp 𝕄 :=
  iprop(semVal (barCell c) 0 ∗ (semVal (sendCell c 0) 0 ∗ semVal (sendCell c 1) 0 ∗ semVal (sendCell c 2) 0 ∗ semVal (sendCell c 3) 0 ∗ semVal (sendCell c 4) 0 ∗ semVal (sendCell c 5) 0 ∗ semVal (sendCell c 6) 0 ∗ semVal (sendCell c 7) 0 ∗ semVal (sendCell c 8) 0 ∗ semVal (sendCell c 9) 0 ∗ semVal (sendCell c 10) 0 ∗ semVal (sendCell c 11) 0 ∗ semVal (sendCell c 12) 0 ∗ semVal (sendCell c 13) 0 ∗ semVal (sendCell c 14) 0 ∗ semVal (sendCell c 15) 0) ∗ (semVal (recvCell c 0) 0 ∗ semVal (recvCell c 1) 0 ∗ semVal (recvCell c 2) 0 ∗ semVal (recvCell c 3) 0 ∗ semVal (recvCell c 4) 0 ∗ semVal (recvCell c 5) 0 ∗ semVal (recvCell c 6) 0 ∗ semVal (recvCell c 7) 0 ∗ semVal (recvCell c 8) 0 ∗ semVal (recvCell c 9) 0 ∗ semVal (recvCell c 10) 0 ∗ semVal (recvCell c 11) 0 ∗ semVal (recvCell c 12) 0 ∗ semVal (recvCell c 13) 0 ∗ semVal (recvCell c 14) 0 ∗ semVal (recvCell c 15) 0))
/-- The operands. -/
def Operands (c : Dev nD) (fA fB : S1.Idx → Elt F .f32) (fW : S4096x2048.Idx → Elt F .f32) : sProp 𝕄 :=
  iprop((locX c ↦[Finset.univ]{fullShare} xC m c) ∗ ((Memref.whole cc0_stg1_0).view.loc (c : Thread nD τ) ↦[Finset.univ]{fullShare} fA) ∗ ((Memref.whole cc0_stg2_0).view.loc (c : Thread nD τ) ↦[Finset.univ]{fullShare} fB) ∗ ((Memref.whole main_arg1).view.loc (c : Thread nD τ) ↦[Finset.univ]{fullShare} fW))

set_option maxHeartbeats 8000000 in
/-- One device's body: from its operands and tickets to the blocks of the result, everything else got back. -/
theorem wp_body (W : Waits sig Unit) (fA fB : S1.Idx → Elt F .f32) (fW : S4096x2048.Idx → Elt F .f32) (gO : S4096x2048.Idx → Elt F .f32) {Q : PUnit → sProp 𝕄} :
    iprop(records m K ∗ levAts L lv ∗ owes (c : Thread nD τ) (O₀ c) W ∗ Tickets c ∗ Operands m c fA fB fW ∗ Scratch c ∗ Counts c ∗ ((Memref.whole main_v1).view.loc (c : Thread nD τ) ↦[Finset.univ]{fullShare} gO))
      ⊢ iprop((∀ W', (owes (c : Thread nD τ) 0 W' ∗ Operands m c fA fB fW ∗ Scratch c ∗ Counts c ∗ Spent c ∗ Written m c fA fB fW) -∗ Q ⟨⟩)
          -∗ wpB c (onBufs (cc0_body (F := F))) Q) := by
  unfold Tickets Operands Scratch Counts Spent Written
  iintro ⟨#HR, #HL, HO, ⟨HBar, HTl, HTr, ⟨G0, G1, G2, G3, G4, G5, G6, G7, G8, G9, G10, G11, G12, G13, G14, G15⟩, T0, T1, T2, T3, T4, T5, T6, T7, T8, T9, T10, T11, T12, T13, T14, T15⟩, ⟨HX, HA, HB, HW⟩, ⟨HC, ⟨%g1, H1⟩, ⟨%g2, H2⟩, ⟨%g3, H3⟩, H4⟩, ⟨V35, V36, V37, V38, V39⟩, HOut⟩ Hk
  ihave HC := (comm_out c) $$ HC
  icases HC with ⟨HCl, HCr⟩
  ihave HX := (x_shares m c).1 $$ HX
  icases HX with ⟨HX, ⟨S0, S1, S2, S3⟩, S4, S5, S6, S7⟩
  ihave H4 := (slots_out c) $$ H4
  icases H4 with ⟨⟨Z0, Z1⟩, ZR⟩
  ihave H2 := (pointsTo_split_subset (Finset.subset_univ wst0.view.set)).1 $$ H2
  icases H2 with ⟨H2, H2'⟩
  rw [← wst_sets]
  ihave HOut := (result_out c gO) $$ HOut
  icases HOut with ⟨HOut, ⟨B00, B01, B02, B03, B10, B11, B12, B13⟩, B_0, B_1, B_2, B_3, B_4, B_5, B_6, B_7⟩
  unfold onBufs
  rw [cc0_body_eq_skeleton]
  unfold cc0_body_skel
  iapply (wpB_bind c)
  rw [k0_part31_eq_skeleton]
  unfold k0_part31_skel
  iapply (wp_part1 m K c W) $$ [HO HBar HTl HTr HCl HCr S0 G0]
  · isplitr; · iexact HR
    isplitr; · iexact HL
    isplitl [HO]; · iexact HO
    isplitl [HBar]; · iexact HBar
    isplitl [HTl]; · iexact HTl
    isplitl [HTr]; · iexact HTr
    isplitl [HCl]; · iexact HCl
    isplitl [HCr]; · iexact HCr
    isplitl [S0]; · iexact S0
    iexact G0
  iintro %W1 %v2 %v4 %v6 %v8 ⟨HO, VBar, N0, ⟨D1, D2, D3, D8, D9, D10, D11⟩, D4, D5, D6, D7, D12, D13, D14, D15⟩
  iapply (wp_part2 m K c W1 v4 v6) $$ [HO S1 S2 S3 S4 S5 S6 D1 D2 D3 D4 D5 D6 G1 G2 G3 G4 G5 G6]
  · isplitr; · iexact HR
    isplitl [HO]; · iexact HO
    isplitl [S1 S2 S3 S4 S5 S6]
    · isplitl [S1]; · iexact S1
      isplitl [S2]; · iexact S2
      isplitl [S3]; · iexact S3
      isplitl [S4]; · iexact S4
      isplitl [S5]; · iexact S5
      iexact S6
    isplitl [D1 D2 D3 D4 D5 D6]
    · isplitl [D1]; · iexact D1
      isplitl [D2]; · iexact D2
      isplitl [D3]; · iexact D3
      isplitl [D4]; · iexact D4
      isplitl [D5]; · iexact D5
      iexact D6
    isplitl [G1]; · iexact G1
    isplitl [G2]; · iexact G2
    isplitl [G3]; · iexact G3
    isplitl [G4]; · iexact G4
    isplitl [G5]; · iexact G5
    iexact G6
  iintro ⟨HO, N1, N2, N3, N4, N5, N6⟩
  iapply (wp_part4 m K c W1 v2 fA fB fW g1 g2 g3 gO)
  isplitr; · iexact HR
  isplitr; · iexact HL
  isplitl [HO]; · iexact HO
  isplitl [G7]; · iexact G7
  isplitl [S7]; · iexact S7
  isplitl [D7]; · iexact D7
  isplitl [HX]; · iexact HX
  isplitl [HA]; · iexact HA
  isplitl [HB]; · iexact HB
  isplitl [HW]; · iexact HW
  isplitl [H1]; · iexact H1
  isplitl [H2]; · iexact H2
  isplitl [H2']; · iexact H2'
  isplitl [H3]; · iexact H3
  isplitl [HOut]; · iexact HOut
  isplitl [V35]; · iexact V35
  isplitl [V36]; · iexact V36
  isplitl [V39]; · iexact V39
  iintro %W4 %g2a %g2b %g3a ⟨HO, N7, HX, HA, HB, HW, H1, H2, H2', V35, V36, HOwn⟩
  iapply (wp_part8 m K c W4 v4 v6) $$ [HO T0 T1 T4 T5 D8 D9 D10 D11 D12 G8 G9 G10 G11 G12]
  · isplitr; · iexact HR
    isplitr; · iexact HL
    isplitl [HO]; · iexact HO
    isplitl [T0 T1 T4 T5]
    · isplitl [T0]; · iexact T0
      isplitl [T1]; · iexact T1
      isplitl [T4]; · iexact T4
      iexact T5
    isplitl [D8 D9 D10 D11 D12]
    · isplitl [D8]; · iexact D8
      isplitl [D9]; · iexact D9
      isplitl [D10]; · iexact D10
      isplitl [D11]; · iexact D11
      iexact D12
    isplitl [G8]; · iexact G8
    isplitl [G9]; · iexact G9
    isplitl [G10]; · iexact G10
    isplitl [G11]; · iexact G11
    iexact G12
  iintro %W8 ⟨HO, ⟨N8, N9, N10, N11, N12⟩, ⟨R0, R1, R4, R5⟩, ⟨X0, X1, X4, X5⟩, S13, S14, S15⟩
  iapply (wp_part11 m K c W8 v4 v6 v8 (sc fA fB) (w8C fW)) $$ [HO S13 S14 S15 D13 D14 D15 G13 G14 G15 T2 T6 T3 T7 T8 X0 X1 X4 X5 H1 Z0 Z1 B00 B13 B01 B12 B02 B11 B03 B10 B_0 V37 V38]
  · isplitr; · iexact HR
    isplitr; · iexact HL
    isplitl [HO]; · iexact HO
    isplitl [S13 S14 S15]
    · isplitl [S13]; · iexact S13
      isplitl [S14]; · iexact S14
      iexact S15
    isplitl [D13 D14 D15]
    · isplitl [D13]; · iexact D13
      isplitl [D14]; · iexact D14
      iexact D15
    isplitl [G13 G14 G15]
    · isplitl [G13]; · iexact G13
      isplitl [G14]; · iexact G14
      iexact G15
    isplitl [T2 T6 T3 T7 T8]
    · isplitl [T2]; · iexact T2
      isplitl [T6]; · iexact T6
      isplitl [T3]; · iexact T3
      isplitl [T7]; · iexact T7
      iexact T8
    isplitl [X0 X1 X4 X5]
    · isplitl [X0]; · iexact X0
      isplitl [X1]; · iexact X1
      isplitl [X4]; · iexact X4
      iexact X5
    isplitl [H1]; · iexact H1
    isplitl [Z0 Z1]
    · isplitl [Z0]; · iexact Z0
      iexact Z1
    isplitl [B00 B13 B01 B12 B02 B11 B03 B10]
    · isplitl [B00]; · iexact B00
      isplitl [B13]; · iexact B13
      isplitl [B01]; · iexact B01
      isplitl [B12]; · iexact B12
      isplitl [B02]; · iexact B02
      isplitl [B11]; · iexact B11
      isplitl [B03]; · iexact B03
      iexact B10
    isplitl [B_0]; · iexact B_0
    isplitl [V37]; · iexact V37
    iexact V38
  iintro %W11 ⟨HO, ⟨N13, N14, N15⟩, ⟨R2, R6, R3, R7, R8⟩, ⟨X2, X6, X3, X7, X8⟩, ⟨X0, X1, X4, X5⟩, H1, Z0', ⟨E00, E13, E01, E12, E02, E11, E03⟩, F1, F0⟩
  iapply (wp_part20 m K c W11 v4 v6 v8 (sc fA fB) (w8C fW)) $$ [HO T12 T9 T13 T10 H1 B_7 B_1 B_6 B_2 F1 F0]
  · isplitr; · iexact HR
    isplitr; · iexact HL
    isplitl [HO]; · iexact HO
    isplitl [T12 T9 T13 T10]
    · isplitl [T12]; · iexact T12
      isplitl [T9]; · iexact T9
      isplitl [T13]; · iexact T13
      iexact T10
    isplitl [H1]; · iexact H1
    isplitl [B_7 B_1 B_6 B_2]
    · isplitl [B_7]; · iexact B_7
      isplitl [B_1]; · iexact B_1
      isplitl [B_6]; · iexact B_6
      iexact B_2
    isplitl [F1]; · iexact F1
    iexact F0
  iintro %W20 ⟨HO, ⟨R12, R9, R13, R10⟩, ⟨X12, X9, X13, X10⟩, H1, Z1', ⟨E10, E_0, E_7, E_1⟩, F1, F0⟩
  iapply (wp_part24 m K c W20 v4 v6 v8 (sc fA fB) (w8C fW)) $$ [HO T14 T11 T15 H1 B_5 B_3 B_4 F1 F0 HOwn N0]
  · isplitr; · iexact HR
    isplitr; · iexact HL
    isplitl [HO]; · iexact HO
    isplitl [T14 T11 T15]
    · isplitl [T14]; · iexact T14
      isplitl [T11]; · iexact T11
      iexact T15
    isplitl [H1]; · iexact H1
    isplitl [B_5 B_3 B_4]
    · isplitl [B_5]; · iexact B_5
      isplitl [B_3]; · iexact B_3
      iexact B_4
    isplitl [F1]; · iexact F1
    isplitl [F0]; · iexact F0
    isplitl [HOwn]; · iexact HOwn
    iexact N0
  iintro %W24 ⟨HO, ⟨R14, R11, R15⟩, ⟨X14, X11, X15⟩, H1, ⟨Z0, Z1⟩, ⟨E_6, E_2, E_5, E_3, E_4⟩, EO, H3, ⟨V37, V38, V39⟩, U0, S0⟩
  iapply (wp_part28 m K c W24) $$ [HO N1 N2 N3 N4 N5 N6 N7 N8 N9 N10 N11 N12]
  · isplitr; · iexact HR
    isplitl [HO]; · iexact HO
    isplitl [N1]; · iexact N1
    isplitl [N2]; · iexact N2
    isplitl [N3]; · iexact N3
    isplitl [N4]; · iexact N4
    isplitl [N5]; · iexact N5
    isplitl [N6]; · iexact N6
    isplitl [N7]; · iexact N7
    isplitl [N8]; · iexact N8
    isplitl [N9]; · iexact N9
    isplitl [N10]; · iexact N10
    isplitl [N11]; · iexact N11
    iexact N12
  iintro %W28 ⟨HO, ⟨U1, U2, U3, U4, U5, U6, U7, U8, U9, U10, U11, U12⟩, S1, S2, S3, S4, S5, S6, S7, S8, S9, S10, S11, S12⟩
  simp only [Prog.lift, Prog.bind_op, Prog.bind_ret, Prog.pure_eq_ret]
  iapply (wp_send_wait m K c 13 W28 (by rfl) (by rfl)) $$ [HO N13]
  · isplitr; · iexact HR
    isplitl [HO]; · iexact HO
    iexact N13
  iintro %W29 ⟨HO, U13, S13⟩
  iapply (wp_send_wait m K c 14 W29 (by rfl) (by rfl)) $$ [HO N14]
  · isplitr; · iexact HR
    isplitl [HO]; · iexact HO
    iexact N14
  iintro %W30 ⟨HO, U14, S14⟩
  iapply (wpB_end c)
  iapply (wp_send_wait m K c 15 W30 (by rfl) (by rfl)) $$ [HO N15]
  · isplitr; · iexact HR
    isplitl [HO]; · iexact HO
    iexact N15
  iintro %W31 ⟨HO, U15, S15⟩
  iapply (wpB_end c)
  ihave X0 := (land_split m c 0 8 9 (by decide) (by decide) (sets_0).1 (sets_0).2).2 $$ [X0 S8 S9]
  · isplitl [X0]; · iexact X0
    isplitl [S8]; · iexact S8
    iexact S9
  ihave X1 := (land_split m c 1 10 11 (by decide) (by decide) (sets_1).1 (sets_1).2).2 $$ [X1 S10 S11]
  · isplitl [X1]; · iexact X1
    isplitl [S10]; · iexact S10
    iexact S11
  ihave X4 := (land_split m c 4 12 13 (by decide) (by decide) (sets_4).1 (sets_4).2).2 $$ [X4 S12 S13]
  · isplitl [X4]; · iexact X4
    isplitl [S12]; · iexact S12
    iexact S13
  ihave X5 := (land_split m c 5 14 15 (by decide) (by decide) (sets_5).1 (sets_5).2).2 $$ [X5 S14 S15]
  · isplitl [X5]; · iexact X5
    isplitl [S14]; · iexact S14
    iexact S15
  ihave HC := (comm_back m c) $$ [X0 X1 X2 X3 X4 X5 X6 X7 X8 X9 X10 X11 X12 X13 X14 X15]
  · isplitl [X0]; · iexact X0
    isplitl [X1]; · iexact X1
    isplitl [X2]; · iexact X2
    isplitl [X3]; · iexact X3
    isplitl [X4]; · iexact X4
    isplitl [X5]; · iexact X5
    isplitl [X6]; · iexact X6
    isplitl [X7]; · iexact X7
    isplitl [X8]; · iexact X8
    isplitl [X9]; · iexact X9
    isplitl [X10]; · iexact X10
    isplitl [X11]; · iexact X11
    isplitl [X12]; · iexact X12
    isplitl [X13]; · iexact X13
    isplitl [X14]; · iexact X14
    iexact X15
  ihave HX := ((x_shares m c).2) $$ [HX S0 S1 S2 S3 S4 S5 S6 S7]
  · isplitl [HX]; · iexact HX
    isplitl [S0 S1 S2 S3]
    · isplitl [S0]; · iexact S0
      isplitl [S1]; · iexact S1
      isplitl [S2]; · iexact S2
      iexact S3
    isplitl [S4]; · iexact S4
    isplitl [S5]; · iexact S5
    isplitl [S6]; · iexact S6
    iexact S7
  ihave H4 := (slots_back c) $$ [Z0 Z1 Z0' Z1' ZR]
  · isplitl [Z0]; · iexact Z0
    isplitl [Z1]; · iexact Z1
    isplitl [Z0']; · iexact Z0'
    isplitl [Z1']; · iexact Z1'
    iexact ZR
  rw [wst_sets]
  ihave H2 := (pointsTo_join_subset (ℓ := (Memref.whole cc0_scratch2).view.loc (c : Thread nD τ)) (I := wst0.view.set) (S := Finset.univ) (Finset.subset_univ _)) $$ [H2 H2']
  · isplitl [H2]; · iexact H2
    iexact H2'
  iapply Hk $$ %W31
  isplitl [HO]; · iexact HO
  isplitl [HX HA HB HW]
  · isplitl [HX]; · iexact HX
    isplitl [HA]; · iexact HA
    isplitl [HB] <;> iassumption
  isplitl [HC H1 H2 H3 H4]
  · isplitl [HC]; · iexact HC
    isplitl [H1]; · iexists _; iexact H1
    isplitl [H2]; · iexists _; iexact H2
    isplitl [H3] <;> iassumption
  isplitl [V35 V36 V37 V38 V39]
  · isplitl [V35]; · iexact V35
    isplitl [V36]; · iexact V36
    isplitl [V37]; · iexact V37
    isplitl [V38]; · iexact V38
    iexact V39
  isplitl [VBar U0 U1 U2 U3 U4 U5 U6 U7 U8 U9 U10 U11 U12 U13 U14 U15 R0 R1 R2 R3 R4 R5 R6 R7 R8 R9 R10 R11 R12 R13 R14 R15]
  · isplitl [VBar]; · iexact VBar
    isplitl [U0 U1 U2 U3 U4 U5 U6 U7 U8 U9 U10 U11 U12 U13 U14 U15]
    · isplitl [U0]; · iexact U0
      isplitl [U1]; · iexact U1
      isplitl [U2]; · iexact U2
      isplitl [U3]; · iexact U3
      isplitl [U4]; · iexact U4
      isplitl [U5]; · iexact U5
      isplitl [U6]; · iexact U6
      isplitl [U7]; · iexact U7
      isplitl [U8]; · iexact U8
      isplitl [U9]; · iexact U9
      isplitl [U10]; · iexact U10
      isplitl [U11]; · iexact U11
      isplitl [U12]; · iexact U12
      isplitl [U13]; · iexact U13
      isplitl [U14]; · iexact U14
      iexact U15
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    iexact R15
  isplitl [EO]; · iexact EO
  isplitl [E00 E01 E02 E03 E10 E11 E12 E13]
  · isplitl [E00]; · iexact E00
    isplitl [E01]; · iexact E01
    isplitl [E02]; · iexact E02
    isplitl [E03]; · iexact E03
    isplitl [E10]; · iexact E10
    isplitl [E11]; · iexact E11
    isplitl [E12]; · iexact E12
    iexact E13
  isplitl [E_0]; · iexact E_0
  isplitl [E_1]; · iexact E_1
  isplitl [E_2]; · iexact E_2
  isplitl [E_3]; · iexact E_3
  isplitl [E_4]; · iexact E_4
  isplitl [E_5]; · iexact E_5
  isplitl [E_6]; · iexact E_6
  iexact E_7

end Body

end Cert.Gather

end
-- ==== Proof.Deal.lean ====
/-
The ghost state at the launch: the cells' invariants allocated, and every token dealt to the device that meets its duty.
-/
module

public import proofs.«01_k».proof.Proof.Body

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tickets of one device, listed -/

/-- The thirty-three semaphores of the protocol on a device are different. -/
theorem csem_injective : Function.Injective csem := by
  intro a b h
  by_cases ha : a.val = 0
  · by_cases hb : b.val = 0
    · exact Fin.ext (ha.trans hb.symm)
    · unfold csem at h; rw [if_pos ha, if_neg hb] at h; cases h
  · by_cases hb : b.val = 0
    · unfold csem at h; rw [if_neg ha, if_pos hb] at h; cases h
    · unfold csem at h; rw [if_neg ha, if_neg hb] at h
      have h1 : a.val + 2 = b.val + 2 := congrArg Fin.val (SemLoc.dma.inj h)
      exact Fin.ext (by omega)

/-- The cells of the protocol on all the devices are different. -/
theorem kcell_injective : Function.Injective (kcell : Dev nD × Fin 33 → GSem nD τ sig) := by
  rintro ⟨c, k⟩ ⟨c', k'⟩ h
  have h1 : c = c' := congrArg (fun g : GSem nD τ sig => g.1.1) h
  have h2 : k = k' := csem_injective (congrArg Prod.snd h)
  rw [h1, h2]

/-- Every cell of every device. -/
def allCells : Finset (GSem nD τ sig) := Finset.univ.map ⟨kcell, kcell_injective⟩

/-- Different cells have different first tokens. -/
theorem plain_injective : Function.Injective (fun g : GSem nD τ sig => (g, 0, false) : GSem nD τ sig → GSem nD τ sig × ℕ × Bool) :=
  fun _ _ h => congrArg Prod.fst h
/-- Different devices' barriers have different second tokens. -/
theorem second_injective : Function.Injective (fun c : Dev nD => (barCell c, 0, true) : Dev nD → GSem nD τ sig × ℕ × Bool) :=
  fun _ _ h => congrArg (fun x : GSem nD τ sig × ℕ × Bool => x.1.1.1) h

/-- The tokens of the duties `false`, one a cell. -/
def plainToks : Finset (GSem nD τ sig × ℕ × Bool) := allCells.map ⟨_, plain_injective⟩
/-- The tokens of the duties `true`, which only the barrier cells have. -/
def secondToks : Finset (GSem nD τ sig × ℕ × Bool) := Finset.univ.map ⟨_, second_injective⟩
/-- No first token is a second token. -/
theorem toks_disjoint : Disjoint plainToks secondToks := by
  rw [Finset.disjoint_left]
  intro x h h'
  obtain ⟨g, -, rfl⟩ := Finset.mem_map.mp h
  obtain ⟨c, -, e⟩ := Finset.mem_map.mp h'
  cases congrArg (fun x : GSem nD τ sig × ℕ × Bool => x.2.2) e

/-- The ghost state at the start: the staging's, this protocol's, and no copy in flight. -/
def u₀ : UU :=
  (initOf (Pipeline.cells cfgs cellOf_inj) (Pipeline.launchToks cfgs cellOf_inj), (initOf allCells (plainToks ∪ secondToks), (1 : Counters)))

/-- The send semaphores have different numbers. -/
theorem kS_injective : Function.Injective kS := fun a b h => Fin.ext (by have := congrArg Fin.val h; dsimp only [kS] at this; omega)
/-- The receive semaphores have different numbers. -/
theorem kR_injective : Function.Injective kR := fun a b h => Fin.ext (by have := congrArg Fin.val h; dsimp only [kR] at this; omega)

omit [FloatOps F] in
/-- A device's cells are its barrier's, its departures' and its arrivals'. -/
theorem cells_split (Φ : Fin 33 → sProp 𝕄) :
    bigSep Finset.univ Φ = iprop(Φ 0 ∗ (bigSep Finset.univ fun i : Fin 16 => Φ (kS i)) ∗ bigSep Finset.univ fun i : Fin 16 => Φ (kR i)) := by
  have e : (Finset.univ : Finset (Fin 33)) = {0} ∪ (Finset.univ.map ⟨kS, kS_injective⟩ ∪ Finset.univ.map ⟨kR, kR_injective⟩) := by decide
  rw [e, bigSep_union (by decide), bigSep_union (by decide), bigSep_singleton, bigSep_map, bigSep_map]
  rfl

omit [FloatOps F] in
/-- A conjunction over the sixteen copies, written out. -/
theorem sixteen (Φ : Fin 16 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) := by
  rw [bigSep_univ_eq_bigSepL [0, 1, 2, 3, 4, 5, 6, 7, 8, 9, 10, 11, 12, 13, 14, 15] (by decide) (by decide)]
  rfl

/-! ## What the launch hands out -/

/-- The tokens of a device's own cells. -/
def toks (c : Dev nD) : sProp 𝕄 :=
  iprop((bigSep Finset.univ fun k : Fin 33 => dutyTok ER (kcell (c, k)) 0 false) ∗ dutyTok ER (barCell c) 0 true)

/-- What device `c` gets of the ghost state: its cells at round 0 with its positions there, and the tokens of its cells. -/
def G (c : Dev nD) : sProp 𝕄 :=
  iprop((bigSep Finset.univ fun k : Fin 33 => roundState ER (rd m) (kcell (c, k)) 0)
    ∗ ((bigSep Finset.univ fun k : Fin 33 => atPos ER (kcell (c, k)) 0 ∅ 0) ∗ bigSep Finset.univ fun k : Fin 33 => reached ER (kcell (c, k)) 0)
    ∗ toks c)

omit [FloatOps F] in
/-- A product over all the cells, device by device: its barrier, its send cells and its receive cells. -/
theorem over_cells (Φ : GSem nD τ sig → sProp 𝕄) :
    bigSep allCells Φ = bigSep Finset.univ fun c : Dev nD => bigSep Finset.univ fun k : Fin 33 => Φ (kcell (c, k)) := by
  unfold allCells
  rw [bigSep_map, bigSep_univ_prod]
  rfl

omit [FloatOps F] in
/-- The tokens of all the cells, device by device. -/
theorem over_toks : bigSep (plainToks ∪ secondToks) (fun x => (dutyTok ER x.1 x.2.1 x.2.2 : sProp 𝕄)) = bigSep Finset.univ fun c : Dev nD => toks c := by
  rw [bigSep_union toks_disjoint]
  unfold plainToks secondToks toks
  rw [bigSep_map, bigSep_map, bigSep_sep']
  have h := over_cells (F := F) (fun g => (dutyTok ER g 0 false : sProp 𝕄))
  exact congrArg (fun A : sProp 𝕄 => iprop(A ∗ bigSep Finset.univ fun c : Dev nD => dutyTok ER (barCell c) 0 true)) h

omit [FloatOps F] in
/-- The ghost state of the protocol, dealt to the devices. -/
theorem fund_cells : BI.own (ER (initOf allCells (plainToks ∪ secondToks))) ⊢ (|==> bigSep Finset.univ (G m) : sProp 𝕄) := by
  iintro HX
  imod (Rounds.fund ER (rd m) allCells (plainToks ∪ secondToks)) $$ HX with ⟨Hst, Hr, Hat, Htok⟩
  imodintro
  ihave Hst := (Entails.of_eq (over_cells fun g => roundState ER (rd m) g 0)) $$ Hst
  ihave Hat := (Entails.of_eq (over_cells fun g => atPos ER g 0 ∅ 0)) $$ Hat
  ihave Hr := (Entails.of_eq (over_cells fun g => reached ER g 0)) $$ Hr
  ihave Htok := (Entails.of_eq over_toks) $$ Htok
  unfold G
  simp only [bigSep_sep']
  isplitl [Hst]; · iexact Hst
  isplitl [Hat Hr]
  · isplitl [Hat] <;> iassumption
  iexact Htok

/-! ## The semaphores -/

set_option backward.proofsInPublic true in
/-- The kernel's own semaphores: the departures', the arrivals', the five of the copies inside a device. -/
def osem (k : Fin 37) : SemLoc sig := .dma ⟨k.val + 3, by have := k.isLt; show k.val + 3 < 40; omega⟩
/-- The facts that the launch asks of the kernel's own semaphores. -/
theorem ownSemFacts : Pipeline.OwnSemFacts cfg0.spec osem := by decide

set_option backward.proofsInPublic true in
/-- The place of a send semaphore in that list. -/
abbrev oS (i : Fin 16) : Fin 37 := ⟨i.val, by omega⟩
set_option backward.proofsInPublic true in
/-- The place of a receive semaphore in that list. -/
abbrev oR (i : Fin 16) : Fin 37 := ⟨16 + i.val, by omega⟩
/-- The send semaphores have different places. -/
theorem oS_injective : Function.Injective oS := fun a b h => Fin.ext (by have := congrArg Fin.val h; dsimp only [oS] at this; omega)
/-- The receive semaphores have different places. -/
theorem oR_injective : Function.Injective oR := fun a b h => Fin.ext (by have := congrArg Fin.val h; dsimp only [oR] at this; omega)
/-- At a send semaphore's place is that semaphore. -/
theorem osem_send : ∀ i : Fin 16, osem (oS i) = .dma (sendS i) := by decide
/-- At a receive semaphore's place is that semaphore. -/
theorem osem_recv : ∀ i : Fin 16, osem (oR i) = .dma (recvS i) := by decide

omit [FloatOps F] in
/-- The kernel's own semaphores at zero: the send cells, the receive cells, and those of the local copies. -/
theorem ownSems0_eq (c : Dev nD) : (Pipeline.ownSems0 (Ix := Unit) (Name := ℕ) (U := UU) (Lvl := ℕ) (Val := Elt F) (τ := τ) osem c : sProp 𝕄)
    = iprop((bigSep Finset.univ fun i : Fin 16 => semVal (sendCell c i) 0) ∗ (bigSep Finset.univ fun i : Fin 16 => semVal (recvCell c i) 0) ∗ Counts (F := F) c) := by
  have e : (Finset.univ : Finset (Fin 37)) = Finset.univ.map ⟨oS, oS_injective⟩ ∪ (Finset.univ.map ⟨oR, oR_injective⟩ ∪ {32, 33, 34, 35, 36}) := by decide
  unfold Pipeline.ownSems0
  rw [e, bigSep_union (by decide), bigSep_union (by decide), bigSep_map, bigSep_map, bigSep_eq_bigSepL_of_eq (S := ({32, 33, 34, 35, 36} : Finset (Fin 37))) [32, 33, 34, 35, 36] (by decide) (by decide)]
  have hs : (bigSep Finset.univ fun i : Fin 16 => (semVal ((c : Thread nD τ), osem (oS i)) 0 : sProp 𝕄)) = bigSep Finset.univ fun i : Fin 16 => semVal (sendCell c i) 0 :=
    bigSep_congr fun i _ => by rw [osem_send]
  have hr : (bigSep Finset.univ fun i : Fin 16 => (semVal ((c : Thread nD τ), osem (oR i)) 0 : sProp 𝕄)) = bigSep Finset.univ fun i : Fin 16 => semVal (recvCell c i) 0 :=
    bigSep_congr fun i _ => by rw [osem_recv]
  exact congrArg₂ (fun A B : sProp 𝕄 => iprop(A ∗ B ∗ Counts (F := F) c)) hs hr

omit [FloatOps F] in
/-- The only semaphore that outlives the kernel is the barrier. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counts at zero, as those of the protocol's cells and the five others. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 33 => semVal (kcell (c, k)) 0) ∗ Counts (F := F) c) : sProp 𝕄) := by
  rw [ownSems0_eq, unscopedSems0_eq, cells_split]
  have hs : (bigSep Finset.univ fun i : Fin 16 => (semVal (kcell (c, kS i)) 0 : sProp 𝕄)) = bigSep Finset.univ fun i : Fin 16 => semVal (sendCell c i) 0 :=
    bigSep_congr fun i _ => by unfold kcell; dsimp only; rw [csem_send]
  have hr : (bigSep Finset.univ fun i : Fin 16 => (semVal (kcell (c, kR i)) 0 : sProp 𝕄)) = bigSep Finset.univ fun i : Fin 16 => semVal (recvCell c i) 0 :=
    bigSep_congr fun i _ => by unfold kcell; dsimp only; rw [csem_recv]
  rw [hs, hr]
  iintro ⟨⟨HS, HV, HC⟩, HB⟩
  isplitr [HC]
  · isplitl [HB]; · iexact HB
    isplitl [HS] <;> iassumption
  iexact HC

/-! ## The invariants -/

omit [FloatOps F] in
/-- A device's cells at zero become the protocol's records of them. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Fin 33 => iprop(∃ κ : ℕ, cellInv ER (rd m) κ (kcell (c, k))))
          ∗ (bigSep Finset.univ fun k : Fin 33 => reached ER (kcell (c, k)) 0)
          ∗ (bigSep Finset.univ fun k : Fin 33 => atPos ER (kcell (c, k)) 0 ∅ 0) ∗ toks c ∗ Counts (F := F) c) := by
  unfold G
  iintro ⟨Hos, Hus, Hst, ⟨Hat, Hr⟩, Htok⟩
  ihave Hv := (sems0_eq (F := F) c) $$ [Hos Hus]
  · isplitl [Hos] <;> iassumption
  icases Hv with ⟨Hv, HC⟩
  imod (show iprop((bigSep Finset.univ fun k : Fin 33 => semVal (kcell (c, k)) 0) ∗ bigSep Finset.univ fun k : Fin 33 => roundState ER (rd m) (kcell (c, k)) 0)
      ⊢ (|={Set.univ}=> bigSep Finset.univ fun k : Fin 33 => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HC

/-- What a device starts with but for the credits: its positions, the tokens of the duties it meets, the five other counts. -/
def payToks (c : Dev nD) : sProp 𝕄 :=
  iprop(dutyTok ER (barCell (lft c)) 0 false ∗ dutyTok ER (barCell (rgt c)) 0 true
    ∗ (bigSep Finset.univ fun i : Fin 16 => dutyTok ER (sendCell c i) 0 false) ∗ bigSep Finset.univ fun i : Fin 16 => dutyTok ER (recvCell (tgt c i) i) 0 false)
/-- What a device is dealt that it alone holds. -/
def linear (c : Dev nD) : sProp 𝕄 :=
  iprop((bigSep Finset.univ fun k : Fin 33 => atPos ER (kcell (c, k)) 0 ∅ 0) ∗ payToks c ∗ Counts (F := F) c)
/-- What a device holds when its part begins: the records of every cell and its own tokens. -/
def G' (c : Dev nD) : sProp 𝕄 := iprop(∃ K, records m K ∗ linear c)

/-- Left and right undo each other. -/
def turn : Dev nD ≃ Dev nD := ⟨lft, rgt, rgt_lft, lft_rgt⟩
/-- A copy and the device it lands on determine the device it comes from. -/
def landing : Dev nD × Fin 16 ≃ Dev nD × Fin 16 :=
  ⟨fun p => (tgt p.1 p.2, p.2), fun p => (snd p.1 p.2, p.2), fun p => by dsimp only; rw [snd_tgt], fun p => by dsimp only; rw [tgt_snd]⟩

omit [FloatOps F] in
/-- Every token goes to the device that meets its duty. -/
theorem toks_around : (bigSep Finset.univ fun c : Dev nD => (toks c : sProp 𝕄)) ⊢ bigSep Finset.univ fun c : Dev nD => payToks c := by
  have h1 : (bigSep Finset.univ fun c : Dev nD => (dutyTok ER (barCell c) 0 false : sProp 𝕄)) = bigSep Finset.univ fun c : Dev nD => dutyTok ER (barCell (lft c)) 0 false :=
    bigSep_univ_equiv turn (fun c : Dev nD => (dutyTok ER (barCell c) 0 false : sProp 𝕄))
  have h2 : (bigSep Finset.univ fun c : Dev nD => (dutyTok ER (barCell c) 0 true : sProp 𝕄)) = bigSep Finset.univ fun c : Dev nD => dutyTok ER (barCell (rgt c)) 0 true :=
    bigSep_univ_equiv turn.symm (fun c : Dev nD => (dutyTok ER (barCell c) 0 true : sProp 𝕄))
  have h3 : (bigSep Finset.univ fun c : Dev nD => bigSep Finset.univ fun i : Fin 16 => (dutyTok ER (recvCell c i) 0 false : sProp 𝕄))
      = bigSep Finset.univ fun c : Dev nD => bigSep Finset.univ fun i : Fin 16 => dutyTok ER (recvCell (tgt c i) i) 0 false := by
    have e := bigSep_univ_equiv landing (fun p : Dev nD × Fin 16 => (dutyTok ER (recvCell p.1 p.2) 0 false : sProp 𝕄))
    rw [bigSep_univ_prod, bigSep_univ_prod] at e
    exact e
  have hk (c : Dev nD) : (toks c : sProp 𝕄) = iprop((dutyTok ER (barCell c) 0 false ∗ (bigSep Finset.univ fun i : Fin 16 => dutyTok ER (sendCell c i) 0 false)
      ∗ bigSep Finset.univ fun i : Fin 16 => dutyTok ER (recvCell c i) 0 false) ∗ dutyTok ER (barCell c) 0 true) := by
    unfold toks
    rw [cells_split]
    have hs : (bigSep Finset.univ fun i : Fin 16 => (dutyTok ER (kcell (c, kS i)) 0 false : sProp 𝕄)) = bigSep Finset.univ fun i : Fin 16 => dutyTok ER (sendCell c i) 0 false :=
      bigSep_congr fun i _ => by unfold kcell; dsimp only; rw [csem_send]
    have hr : (bigSep Finset.univ fun i : Fin 16 => (dutyTok ER (kcell (c, kR i)) 0 false : sProp 𝕄)) = bigSep Finset.univ fun i : Fin 16 => dutyTok ER (recvCell c i) 0 false :=
      bigSep_congr fun i _ => by unfold kcell; dsimp only; rw [csem_recv]
    rw [hs, hr]
    rfl
  rw [bigSep_congr fun c _ => hk c]
  unfold payToks
  simp only [bigSep_sep']
  rw [h1, h2, h3]
  iintro ⟨⟨H1, H2, H3⟩, H4⟩
  isplitl [H1]; · iexact H1
  isplitl [H4]; · iexact H4
  isplitl [H2]; · iexact H2
  iexact H3

omit [FloatOps F] in
/-- Every device gets the invariants of all. -/
theorem share_records (K : Dev nD × Fin 33 → ℕ) :
    iprop(records m K ∗ bigSep Finset.univ fun c : Dev nD => linear c) ⊢ bigSep Finset.univ (G' m) := by
  refine (sep_mono_left (BI.bigSep_of_persistent (Finset.univ : Finset (Dev nD)) (records m K))).trans ?_
  rw [← bigSep_sep']
  refine bigSep_mono fun c _ => ?_
  show iprop(records m K ∗ linear c) ⊢ iprop(∃ K, records m K ∗ linear c)
  iintro H
  iexists K
  iexact H

omit [FloatOps F] in
/-- What all the devices are dealt, with the tokens moved from the cell's device to the payer. -/
theorem regroup :
    (bigSep Finset.univ fun c : Dev nD => iprop((bigSep Finset.univ fun k : Fin 33 => iprop(∃ κ : ℕ, cellInv ER (rd m) κ (kcell (c, k))))
          ∗ (bigSep Finset.univ fun k : Fin 33 => reached ER (kcell (c, k)) 0)
          ∗ (bigSep Finset.univ fun k : Fin 33 => atPos ER (kcell (c, k)) 0 ∅ 0) ∗ toks c ∗ Counts (F := F) c) : sProp 𝕄)
      ⊢ bigSep Finset.univ (G' m) := by
  rw [bigSep_sep', bigSep_sep', bigSep_sep', bigSep_sep', ← bigSep_univ_prod (fun ck : Dev nD × Fin 33 => iprop(∃ κ : ℕ, cellInv ER (rd m) κ (kcell ck))),
    ← bigSep_univ_prod (fun ck : Dev nD × Fin 33 => (reached ER (kcell ck) 0 : sProp 𝕄))]
  iintro ⟨HI, HR, Hat, Htok, HC⟩
  ihave HK := (BI.bigSep_exists_pi Finset.univ (fun (ck : Dev nD × Fin 33) (κ : ℕ) => (cellInv ER (rd m) κ (kcell ck) : sProp 𝕄))) $$ HI
  icases HK with ⟨%K, HI⟩
  ihave Htk := (toks_around (F := F)) $$ Htok
  iapply (share_records m K)
  isplitl [HI HR]
  · unfold records
    rw [bigSep_sep']
    isplitl [HI] <;> iassumption
  · unfold linear
    simp only [bigSep_sep']
    isplitl [Hat]; · iexact Hat
    isplitl [Htk]; · iexact Htk
    iexact HC

omit [FloatOps F] in
/-- From the counts at zero and the ghost state of every device to the invariants and the tickets. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Gather

end
-- ==== Proof.Launch.lean ====
/-
The launch of the kernel on the four devices, and the run of the whole program.
-/
module

public import proofs.«01_k».proof.Proof.Deal
public import Idealize.ShloMosaic.Lib.Pipeline.CollectiveSegs

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The credits -/

/-- The barriers of two devices are the same only if the devices are. -/
theorem bar_eq_iff {a b : Dev nD} : Iff (barCell a = barCell b) (a = b) :=
  ⟨fun h => congrArg (fun g : GSem nD τ sig => g.1.1) h, fun h => h ▸ rfl⟩
/-- The receive semaphores are different. -/
theorem recvS_inj {i j : Fin 16} (h : (SemLoc.dma (recvS i) : SemLoc sig) = .dma (recvS j)) : i = j := by
  have h1 : 19 + i.val = 19 + j.val := congrArg Fin.val (SemLoc.dma.inj h)
  exact Fin.ext (by omega)
/-- Two receive cells are the same only if device and copy are. -/
theorem recv_eq_iff {a b : Dev nD} {i j : Fin 16} : Iff (recvCell a i = recvCell b j) (a = b ∧ i = j) :=
  ⟨fun h => ⟨congrArg (fun g : GSem nD τ sig => g.1.1) h, recvS_inj (congrArg Prod.snd h)⟩, fun h => by rw [h.1, h.2]⟩
/-- A receive cell is no barrier. -/
theorem recv_ne_bar {a b : Dev nD} {i : Fin 16} : recvCell a i ≠ barCell b := fun h => by cases congrArg Prod.snd h

/-- The arrivals a device owes are owed to no barrier. -/
theorem rem_bar (d c : Dev nD) : ∀ n, rem d n (barCell c) () = 0
  | 0 => rfl
  | n + 1 => by
    rw [rem, Pi.add_apply, Finsupp.add_apply, rem_bar d c n, tallyAt_ne_cell recv_ne_bar.symm]
    rfl

/-- The last `n` copies of device `d` owe the arrival cell of copy `i` on device `c` if it is one of them and lands there. -/
theorem rem_recv (d c : Dev nD) (i : Fin 16) : ∀ n, n ≤ 16 → rem d n (recvCell c i) () = if 15 - i.val < n ∧ d = snd c i then amt i else 0
  | 0, _ => (if_neg (fun h => Nat.not_lt_zero _ h.1)).symm
  | n + 1, hle => by
    have hi := i.isLt
    rw [rem, Pi.add_apply, Finsupp.add_apply, rem_recv d c i n (by omega), tallyAt_apply]
    by_cases hn : i = ⟨15 - n, by omega⟩
    · have hv : i.val = 15 - n := congrArg Fin.val hn
      rw [if_neg (fun h => by omega), ← hn, Nat.zero_add]
      by_cases hd : d = snd c i
      · rw [if_pos (c := _ ∧ () = ()) ⟨by rw [hd, tgt_snd], rfl⟩, if_pos ⟨by omega, hd⟩]
      · rw [if_neg (fun h => hd (by rw [(recv_eq_iff.mp h.1).1, snd_tgt])), if_neg (fun h => hd h.2)]
    · have hv : i.val ≠ 15 - n := fun h => hn (Fin.ext h)
      have ht : ¬ (recvCell c i = recvCell (tgt d ⟨15 - n, by omega⟩) ⟨15 - n, by omega⟩ ∧ () = ()) := fun h => hn (recv_eq_iff.mp h.1).2
      rw [if_neg ht, Nat.add_zero]
      by_cases hl : 15 - i.val < n ∧ d = snd c i
      · rw [if_pos hl, if_pos ⟨by omega, hl.2⟩]
      · rw [if_neg hl, if_neg (fun h => hl ⟨by omega, h.2⟩)]

/-- A device owes a barrier one unit if it is a neighbour's. -/
theorem owed_bar (d c : Dev nD) : O₀ d (barCell c) () = (if d = lft c then 1 else 0) + (if d = rgt c then 1 else 0) := by
  unfold O₀ O₁
  rw [Pi.add_apply, Finsupp.add_apply, Pi.add_apply, Finsupp.add_apply, rem_bar, tallyAt_apply, tallyAt_apply, Nat.zero_add]
  congr 1
  · by_cases h : d = lft c
    · rw [if_pos h, if_pos ⟨by rw [h, rgt_lft], rfl⟩]
    · rw [if_neg h, if_neg (fun h' => h (by rw [bar_eq_iff.mp h'.1, lft_rgt]))]
  · by_cases h : d = rgt c
    · rw [if_pos h, if_pos ⟨by rw [h, lft_rgt], rfl⟩]
    · rw [if_neg h, if_neg (fun h' => h (by rw [bar_eq_iff.mp h'.1, rgt_lft]))]

/-- A device owes a receive cell the copy's amount if it sends that copy. -/
theorem owed_recv (d c : Dev nD) (i : Fin 16) : O₀ d (recvCell c i) () = if d = snd c i then amt i else 0 := by
  have hi := i.isLt
  unfold O₀ O₁
  rw [Pi.add_apply, Finsupp.add_apply, Pi.add_apply, Finsupp.add_apply, rem_recv d c i 16 le_rfl, tallyAt_ne_cell recv_ne_bar, tallyAt_ne_cell recv_ne_bar,
    Finsupp.zero_apply, Nat.add_zero, Nat.add_zero]
  by_cases h : d = snd c i
  · rw [if_pos h, if_pos ⟨by omega, h⟩]
  · rw [if_neg h, if_neg (fun h' => h h'.2)]

/-- At the launch a barrier is owed two units. -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]
/-- At the launch a receive cell is owed its copy's amount. -/
theorem launch_recv (c : Dev nD) (i : Fin 16) :
    tallyOn (recvCell c i) (launchCredit (Pipeline.owing O₀) 0 (recvCell c i)) = (tallyAt (recvCell c i) () (amt i) : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (snd c i) fun _ => amt i, if_pos (Finset.mem_univ _)]

/-- The receive semaphores' locations are different. -/
theorem recvLoc_injective : Function.Injective (fun i : Fin 16 => (SemLoc.dma (recvS i) : SemLoc sig)) := fun _ _ h => recvS_inj h

omit [FloatOps F] in
/-- The credits of a device: two for its barrier, and for every arrival what the copy carries. -/
theorem creds (c : Dev nD) :
    (Pipeline.launchCred O₀ c : sProp 𝕄) ⊢ iprop(cred (tallyAt (barCell c) () 2) ∗ bigSep Finset.univ fun i : Fin 16 => cred (tallyAt (recvCell c i) () (amt i))) := by
  have hs : (Finset.univ.map ⟨_, recvLoc_injective⟩ : Finset (SemLoc sig)) ⊆ Finset.univ.erase (SemLoc.reg barS) := fun x hx => by
    obtain ⟨i, -, rfl⟩ := Finset.mem_map.mp hx
    exact Finset.mem_erase.mpr ⟨fun h => (by cases h), Finset.mem_univ _⟩
  unfold Pipeline.launchCred
  rw [bigSep_univ_at _ (SemLoc.reg barS), launch_bar]
  refine sep_mono_right ((bigSep_subset hs).trans ?_)
  rw [bigSep_map]
  exact Entails.of_eq (bigSep_congr fun i _ => congrArg (fun t => (cred t : sProp 𝕄)) (launch_recv c i))

/-! ## The tickets -/

omit [FloatOps F] in
/-- A device's permissions to wait, from the credits of its barrier and receive cells. -/
theorem tickets_intro (c : Dev nD) :
    iprop((cred (tallyAt (barCell c) () 2) ∗ bigSep Finset.univ fun i : Fin 16 => cred (tallyAt (recvCell c i) () (amt i))) ∗ linear c)
      ⊢ (iprop(Tickets c ∗ Counts (F := F) c) : sProp 𝕄) := by
  have e : (Tickets c : sProp 𝕄) = iprop(BarTok (F := F) c ∗ dutyTok ER (barCell (lft c)) 0 false ∗ dutyTok ER (barCell (rgt c)) 0 true
      ∗ (bigSep Finset.univ fun i : Fin 16 => SendTok (F := F) c i) ∗ bigSep Finset.univ fun i : Fin 16 => RecvTok (F := F) c i) := by
    unfold Tickets; rw [sixteen, sixteen]
  have hs : (bigSep Finset.univ fun i : Fin 16 => (atPos ER (kcell (c, kS i)) 0 ∅ 0 : sProp 𝕄)) = bigSep Finset.univ fun i : Fin 16 => atPos ER (sendCell c i) 0 ∅ 0 :=
    bigSep_congr fun i _ => by unfold kcell; dsimp only; rw [csem_send]
  have hr : (bigSep Finset.univ fun i : Fin 16 => (atPos ER (kcell (c, kR i)) 0 ∅ 0 : sProp 𝕄)) = bigSep Finset.univ fun i : Fin 16 => atPos ER (recvCell c i) 0 ∅ 0 :=
    bigSep_congr fun i _ => by unfold kcell; dsimp only; rw [csem_recv]
  rw [e]
  unfold linear payToks BarTok SendTok RecvTok
  rw [cells_split, hs, hr]
  simp only [bigSep_sep']
  iintro ⟨⟨HcB, HcR⟩, ⟨HaB, HaS, HaR⟩, ⟨HtL, HtR, HtS, HtV⟩, HC⟩
  isplitr [HC]
  · isplitl [HcB HaB]
    · isplitl [HcB]; · iexact HcB
      iexact HaB
    isplitl [HtL]; · iexact HtL
    isplitl [HtR]; · iexact HtR
    isplitl [HtS HtV HaS]
    · isplitl [HtS]; · iexact HtS
      isplitl [HtV] <;> iassumption
    isplitl [HcR] <;> iassumption
  iexact HC

/-! ## What a device's launch holds before and after its body -/

/-- The first scale, as staged. -/
def sA (c : Dev nD) : S1.Idx → Elt F .f32 := (win0_1.blk (0 : Fin 1)).view.read (Elt F) (m ((c : Thread nD τ).loc main_arg2))
/-- The second scale, as staged. -/
def sB (c : Dev nD) : S1.Idx → Elt F .f32 := (win0_2.blk (0 : Fin 1)).view.read (Elt F) (m ((c : Thread nD τ).loc main_arg3))
/-- The device's columns of `w`. -/
def wC (c : Dev nD) : S4096x2048.Idx → Elt F .f32 := m ((c : Thread nD τ).loc main_arg1)

/-- The weights in main memory, which the kernel reaches without staging. -/
def wPts (c : Dev nD) : sProp 𝕄 := iprop((Memref.whole main_arg1).view.loc (c : Thread nD τ) ↦[Finset.univ]{fullShare} wC m c)
/-- The result's buffer on a device, as it was. -/
def outPts (c : Dev nD) : sProp 𝕄 := iprop((Memref.whole main_v1).view.loc (c : Thread nD τ) ↦[Finset.univ]{fullShare} (m ((c : Thread nD τ).loc main_v1)))

/-- What a device starts with besides its scratch. -/
def start (c : Dev nD) : sProp 𝕄 := iprop((∃ K, records m K) ∗ levAts L lv ∗ Tickets c ∗ Counts (F := F) c ∗ wPts m c ∗ outPts m c)
/-- The region's invariant before the body, -/
def Φ₀ (c : Dev nD) : sProp 𝕄 := iprop(start m c ∗ Scratch (F := F) c)
/-- and after it. -/
def Φ₁ (c : Dev nD) : sProp 𝕄 := iprop(wPts m c ∗ Scratch (F := F) c ∗ Counts (F := F) c ∗ Spent (F := F) c ∗ Written m c (sA m c) (sB m c) (wC m c))

/-- The one region's data: each staged input as it was, before and after. -/
def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => sA m c
    | ⟨2, _⟩ => sB m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
/-- To own a whole buffer is to hold its contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer with given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the body starts from. -/
def bodyPre (c : Dev nD) : sProp 𝕄 :=
  iprop(Φ₀ m c ∗ (dats m 0 c).owesAt () t0_0.castSucc
    ∗ (∃ d, stg c cc0_stg0_0 ((dats m 0 c).before (0 : Fin 3) t0_0 d))
    ∗ (∃ d, stg c cc0_stg1_0 ((dats m 0 c).before (1 : Fin 3) t0_0 d))
    ∗ (∃ d, stg c cc0_stg2_0 ((dats m 0 c).before (2 : Fin 3) t0_0 d)))
/-- What the body leaves. -/
def bodyPost (c : Dev nD) : sProp 𝕄 :=
  iprop(Φ₁ m c ∗ (dats m 0 c).owesAt () t0_0.succ ∗ stg c cc0_stg0_0 (xC m c) ∗ stg c cc0_stg1_0 (sA m c) ∗ stg c cc0_stg2_0 (sB m c))

/-- The body runs from the one to the other. -/
theorem sound_body (c : Dev nD) : bodyPre m c ⊢ wpB c (onBufs (cc0_body (F := F))) (fun _ => bodyPost m c) := by
  unfold bodyPre Φ₀ start
  iintro ⟨⟨⟨⟨%K, HR⟩, HL, HT, HC, HW, HO⟩, HS⟩, Ho, ⟨%d0, %g0, %hg0, HX⟩, ⟨%d1, %g1, %hg1, HA⟩, ⟨%d2, %g2, %hg2, HB⟩⟩
  have h0 : g0 = xC m c := by rw [hg0]; unfold Dat.before; rw [if_pos (fetch0_0 t0_0)]; rfl
  have h1 : g1 = sA m c := by rw [hg1]; unfold Dat.before; rw [if_pos (fetch0_1 t0_0)]; rfl
  have h2 : g2 = sB m c := by rw [hg2]; unfold Dat.before; rw [if_pos (fetch0_2 t0_0)]; rfl
  subst h0 h1 h2
  unfold Dat.owesAt Pipeline.owesWithin
  icases Ho with ⟨%W, %hW, HOw⟩
  rw [show (dats m 0 c).owed t0_0.castSucc = O₀ c from rfl]
  iapply (wp_body m K c W (sA m c) (sB m c) (wC m c) (m ((c : Thread nD τ).loc main_v1))) $$ [HR HL HT HC HW HO HS HOw HX HA HB]
  · isplitl [HR]; · iexact HR
    isplitl [HL]; · iexact HL
    isplitl [HOw]; · iexact HOw
    isplitl [HT]; · iexact HT
    isplitl [HX HA HB HW]
    · unfold Operands
      isplitl [HX]; · iexact HX
      isplitl [HA]; · iexact HA
      isplitl [HB]; · iexact HB
      unfold wPts
      iexact HW
    isplitl [HS]; · iexact HS
    isplitl [HC]; · iexact HC
    unfold outPts
    iexact HO
  iintro %W' ⟨HOw, HOp, HS, HC, HSp, HWr⟩
  unfold Operands
  icases HOp with ⟨HX, HA, HB, HW⟩
  unfold bodyPost Φ₁ Dat.owesAt Pipeline.owesWithin
  rw [show (dats m 0 c).owed t0_0.succ = 0 from rfl]
  isplitl [HS HC HSp HWr HW]
  · isplitl [HW]; · (unfold wPts; iexact HW)
    isplitl [HS]; · iexact HS
    isplitl [HC]; · iexact HC
    isplitl [HSp]; · iexact HSp
    iexact HWr
  isplitl [HOw]
  · iexists W'
    isplitr; · ipureintro; exact fun _ _ => Or.inl trivial
    iexact HOw
  isplitl [HX]
  · iexists _; isplitr; · (ipureintro; rfl)
    iexact HX
  isplitl [HA]
  · iexists _; isplitr; · (ipureintro; rfl)
    iexact HA
  iexists _; isplitr; · (ipureintro; rfl)
  iexact HB

/-- The body meets what the staging around it asks. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wpB c (onBufs (cc0_body (F := F))) (fun _ => bodyPost m c)
  exact sound_body m c

/-- Every window is held at the full share. -/
theorem share_eq (c : Dev nD) (w : Fin cfg0.W) : (dats m 0 c).share w = fullShare := by unfold Dat.share; split <;> rfl

/-! ## Around the body -/

/-- A device's start, from what the launch hands it. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G'
  iintro ⟨⟨HW, HO⟩, Hlev, Hcr, -, ⟨%K, HR, Hl⟩⟩
  ihave Hc := (creds (F := F) c) $$ Hcr
  ihave HT := (tickets_intro c) $$ [Hc Hl]
  · isplitl [Hc] <;> iassumption
  icases HT with ⟨HT, HC⟩
  imodintro
  unfold start wPts outPts
  isplitl
  · isplitl [HR]; · (iexists K; iexact HR)
    isplitl [Hlev]; · iexact Hlev
    isplitl [HT]; · iexact HT
    isplitl [HC]; · iexact HC
    isplitl [HW]; · iexact HW
    iexact HO
  · iempintro

/-- The region's first invariant, from the start and the scratch. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  unfold Scratch Slot
  iexact Hr

/-- What is left when the kernel has returned: the barrier's count, `w` and the result. -/
def Left (c : Dev nD) : sProp 𝕄 := iprop(unscopedSems0 c ∗ wPts m c ∗ Written m c (sA m c) (sB m c) (wC m c))

/-- The region's last invariant gives back the scratch and the semaphores at zero. -/
theorem phi1_exit (c : Dev nD) :
    (dats m 0 c).Φ (Fin.last cfg0.N) ⊢ iprop(Left m c ∗ Pipeline.ownSems0 osem c ∗ Pipeline.scopedRest cfg0.spec c) := by
  have e : (Spent c : sProp 𝕄) = iprop(semVal (barCell c) 0 ∗ (bigSep Finset.univ fun i : Fin 16 => semVal (sendCell c i) 0)
      ∗ bigSep Finset.univ fun i : Fin 16 => semVal (recvCell c i) 0) := by
    unfold Spent; rw [sixteen, sixteen]
  rw [show (dats m 0 c).Φ (Fin.last cfg0.N) = Φ₁ m c from rfl, scopedRest0_eq, ownSems0_eq]
  unfold Φ₁ Left
  rw [e, unscopedSems0_eq]
  iintro ⟨HW, HS, HC, ⟨HB, HD, HA⟩, HWr⟩
  isplitl [HB HW HWr]
  · isplitl [HB]; · iexact HB
    isplitl [HW] <;> iassumption
  isplitl [HD HA HC]
  · isplitl [HD]; · iexact HD
    isplitl [HA] <;> iassumption
  unfold Scratch Slot
  iexact HS

/-- The region's own waits are allowed below what is owed. -/
theorem waits (c : Dev nD) : (levAts L lv : sProp 𝕄) ⊢ Pipeline.cellsWaits cfgs (dats m) () 0 c :=
  Pipeline.cellsWaits_intro cfgs (dats m) () 0 c fun w s t =>
    mayWait c _ _ (by
      have h : lvS (.dma (((cfgs 0).win w).sem s)) = 0 := by fin_cases w <;> fin_cases s <;> decide
      rw [h]
      rcases t with ⟨_ | _, ht⟩
      · exact Above.launch c
      · exact Above.zero 0)

/-! ## Reading the result -/

omit [FloatOps F] in
/-- A written window of the result is so in memory. -/
theorem done_read (c : Dev nD) {s : Shape} (out : Memref sig .tc .hbm s .f32) (v : s.Idx → Elt F .f32) (s' : Phys nD τ sig (Elt F)) :
    iprop(Done c out v ∗ SI s') ⊢ (⌜out.view.read (Elt F) (s'.mem.mem (out.view.loc (c : Thread nD τ))) = v⌝ : sProp 𝕄) := by
  unfold Done
  iintro ⟨⟨%g, Hg, %hg⟩, HSI⟩
  ihave %h := (SI_pointsTo_agree (st := s') (ℓ := out.view.loc (c : Thread nD τ)) (I := out.view.set) (q := fullShare) (f := g)) $$ [Hg HSI]
  · isplitl [HSI] <;> iassumption
  ipureintro
  exact (View.read_congr h).trans hg

/-- The result array `o` of device `c` holds, window by window, what the kernel computed there. -/
def Holds (c : Dev nD) (o : S4096x2048.Idx → Elt F .f32) : Prop :=
  (ownW c).view.read (Elt F) o = ownVal (sc (sA m c) (sB m c)) (xC m c) (w8C (wC m c))
    ∧ (∀ (a : Fin 2) (b : Fin 4), (out2 c a b).view.read (Elt F) o = val2 m c (sc (sA m c) (sB m c)) (w8C (wC m c)) a b)
    ∧ ∀ r : Fin 8, (out3 c r).view.read (Elt F) o = val3 m c (sc (sA m c) (sB m c)) (w8C (wC m c)) r

/-- What the run leaves on a device besides the staged arrays. -/
def After (c : Dev nD) (s : MemSt nD τ sig (Elt F)) : Prop :=
  (∀ sm : SemLoc sig, sm.isScoped .tc = false → s.sem ((c.tc : Thread nD τ), sm) = 0)
    ∧ s.mem ((c : Thread nD τ).loc main_arg1) = m ((c : Thread nD τ).loc main_arg1)
    ∧ Holds m c (s.mem ((c : Thread nD τ).loc main_v1))

/-- What is left at the end says what the memory holds. -/
theorem left_read (c : Dev nD) (s' : Phys nD τ sig (Elt F)) :
    iprop(Left m c ∗ emp ∗ SI s') ⊢ (|={Set.univ}=> iprop(⌜After m c s'.mem⌝ ∗ SI s') : sProp 𝕄) := by
  unfold Left wPts Written
  iintro ⟨⟨HU, HW, EO, ⟨E00, E01, E02, E03, E10, E11, E12, E13⟩, F0, F1, F2, F3, F4, F5, F6, F7⟩, -, HSI⟩
  ihave %hw := (SI_pointsTo_agree (st := s') (ℓ := (Memref.whole main_arg1).view.loc (c : Thread nD τ)) (I := Finset.univ) (q := fullShare) (f := wC m c)) $$ [HW HSI]
  · isplitl [HSI] <;> iassumption
  ihave %ho := (done_read c (ownW c) _ s') $$ [EO HSI]
  · isplitl [EO] <;> iassumption
  ihave %hE00 := (done_read c (out2 c 0 0) _ s') $$ [E00 HSI]
  · isplitl [E00] <;> iassumption
  ihave %hE01 := (done_read c (out2 c 0 1) _ s') $$ [E01 HSI]
  · isplitl [E01] <;> iassumption
  ihave %hE02 := (done_read c (out2 c 0 2) _ s') $$ [E02 HSI]
  · isplitl [E02] <;> iassumption
  ihave %hE03 := (done_read c (out2 c 0 3) _ s') $$ [E03 HSI]
  · isplitl [E03] <;> iassumption
  ihave %hE10 := (done_read c (out2 c 1 0) _ s') $$ [E10 HSI]
  · isplitl [E10] <;> iassumption
  ihave %hE11 := (done_read c (out2 c 1 1) _ s') $$ [E11 HSI]
  · isplitl [E11] <;> iassumption
  ihave %hE12 := (done_read c (out2 c 1 2) _ s') $$ [E12 HSI]
  · isplitl [E12] <;> iassumption
  ihave %hE13 := (done_read c (out2 c 1 3) _ s') $$ [E13 HSI]
  · isplitl [E13] <;> iassumption
  ihave %hF0 := (done_read c (out3 c 0) _ s') $$ [F0 HSI]
  · isplitl [F0] <;> iassumption
  ihave %hF1 := (done_read c (out3 c 1) _ s') $$ [F1 HSI]
  · isplitl [F1] <;> iassumption
  ihave %hF2 := (done_read c (out3 c 2) _ s') $$ [F2 HSI]
  · isplitl [F2] <;> iassumption
  ihave %hF3 := (done_read c (out3 c 3) _ s') $$ [F3 HSI]
  · isplitl [F3] <;> iassumption
  ihave %hF4 := (done_read c (out3 c 4) _ s') $$ [F4 HSI]
  · isplitl [F4] <;> iassumption
  ihave %hF5 := (done_read c (out3 c 5) _ s') $$ [F5 HSI]
  · isplitl [F5] <;> iassumption
  ihave %hF6 := (done_read c (out3 c 6) _ s') $$ [F6 HSI]
  · isplitl [F6] <;> iassumption
  ihave %hF7 := (done_read c (out3 c 7) _ s') $$ [F7 HSI]
  · isplitl [F7] <;> iassumption
  imod (Pipeline.unscopedSems0_read (X := unscopedSems0 c) (c := c) fupd_intro s') $$ [HU HSI] with ⟨%hu, HSI⟩
  · isplitl [HU] <;> iassumption
  imodintro
  isplitr
  · ipureintro
    refine ⟨hu, funext fun i => hw i (Finset.mem_univ i), ho, ?_, ?_⟩
    · intro a b
      fin_cases a <;> fin_cases b
      · exact hE00
      · exact hE01
      · exact hE02
      · exact hE03
      · exact hE10
      · exact hE11
      · exact hE12
      · exact hE13
    · intro r
      fin_cases r
      · exact hF0
      · exact hF1
      · exact hF2
      · exact hF3
      · exact hF4
      · exact hF5
      · exact hF6
      · exact hF7
  iexact HSI

/-! ## The run -/

/-- From any memory with every count at zero: every fair execution ends, the operands unchanged, every count at zero, and
    the result of every device holding window by window what the kernel computed there. -/
theorem run_main : θ_run defs (onTc (τ := τ) (main (F := F))) (⟨m, fun _ => 0, ρ⟩ : MemSt nD τ sig (Elt F))
    (fun r => (∀ c : Dev nD, Holds m c (r.2.mem ((c : Thread nD τ).loc main_v1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (Entails.of_eq (show (BI.own ((embR : Emb (UK × Counters) 𝕄) (initOf allCells (plainToks ∪ secondToks), (1 : Counters))) : sProp 𝕄)
        = BI.own (ER (initOf allCells (plainToks ∪ secondToks))) from rfl)) $$ HX
      imod (fund_cells m) $$ HX with HG
      imodintro
      isplitl [HP] <;> iassumption)
    (hglob := glob m)
    (hA := fun _ _ => rfl) (hpf := fun _ k => k.elim0)
    (X := start m) (Y := Left m) (Z := fun _ => iprop(emp))
    (hX := start_intro m ρ) (hin := phi0_intro m) (hout := phi1_exit m)
    (QY := After m)
    (hY := left_read m)
    (hQ := fun s h hs => ⟨fun c => ⟨(h c).2.2.2.2,
        ((h c).1 (0 : Fin 3)).trans ((dats m 0 c).arrAt_in (0 : Fin 3) rfl _), (h c).2.2.2.1,
        ((h c).1 (1 : Fin 3)).trans ((dats m 0 c).arrAt_in (1 : Fin 3) rfl _),
        ((h c).1 (2 : Fin 3)).trans ((dats m 0 c).arrAt_in (2 : Fin 3) rfl _)⟩, sem_eq_zero hs fun c => (h c).2.2.1⟩)

end Cert.Gather

end
-- ==== Proof.Product.lean ====
/-
The result's entries at the ideal values: a row of `x` times a column of the weights, scaled.
-/
module

public import proofs.«01_k».proof.Proof.Launch
public import Idealize.ShloMosaic.Lib.MatmulPlain
public import Idealize.ShloMosaic.Lib.Pipeline.Value

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx
open scoped BigOperators

/-! ## Products at an entry -/

/-- A product of two matrices from nothing, at an entry: the row times the column. -/
theorem entry {M K N : ℕ} {φ₁ φ₂ : FTy} (x : FVec Ideal ⟨2, ![M, K]⟩ φ₁) (w : FVec Ideal ⟨2, ![K, N]⟩ φ₂) (r : Fin M) (n : Fin N) :
    matmul (DotDims.plain M K N) none x w (constant ⟨2, ![M, N]⟩ .f32 0x00000000#32) (ix2 r n) = ∑ k : Fin K, x (ix2 r k) * w (ix2 k n) := by
  refine (Ideal.matmul_plain_apply none x w _ r n).trans ?_
  show Ideal.ofBits .f32 0x00000000#32 + _ = _
  rw [Ideal.ofBits_zero_f32, zero_add]

/-- The product of a quarter of the device's own columns is a plain product of matrices, -/
theorem dot_own : dot_S1024x1024_S1024x2048_S1024x2048_1_0_0_1_n_n = DotDims.plain 1024 1024 2048 := rfl
/-- so is that of 256 rows, -/
theorem dot_256 : dot_S256x4096_S4096x2048_S256x2048_1_0_0_1_n_n = DotDims.plain 256 4096 2048 := rfl
/-- and that of 128 rows. -/
theorem dot_128 : dot_S128x4096_S4096x2048_S128x2048_1_0_0_1_n_n = DotDims.plain 128 4096 2048 := rfl

/-- A sum over the contracted positions, a quarter of them at a time. -/
theorem quarters (f : Fin 4096 → EReal) : ∑ k, f k = (∑ k : Fin 1024, f ⟨k.val, by omega⟩) + (∑ k : Fin 1024, f ⟨1024 + k.val, by omega⟩)
    + (∑ k : Fin 1024, f ⟨2048 + k.val, by omega⟩) + ∑ k : Fin 1024, f ⟨3072 + k.val, by omega⟩ := by
  have h1 := Fin.sum_univ_add (a := 3072) (b := 1024) f
  have h2 := Fin.sum_univ_add (a := 2048) (b := 1024) fun k => f (Fin.castAdd 1024 k)
  have h3 := Fin.sum_univ_add (a := 1024) (b := 1024) fun k => f (Fin.castAdd 1024 (Fin.castAdd 1024 k))
  exact h1.trans (congrArg (· + _) (h2.trans (congrArg (· + _) h3)))

section Own
variable (x : S1024x1024.Idx → EReal) (w v : S1024x2048.Idx → EReal) (r : Fin 1024) (n : Fin 2048)

/-- The first partial product of the device's own rows, -/
theorem pay3_at : k0_pay3 (F := Ideal) x w (ix2 r n) = ∑ k : Fin 1024, x (ix2 r k) * w (ix2 k n) := by
  unfold k0_pay3
  rw [cast_same, cast_same, dot_own]
  exact entry (φ₁ := .fp8e5m2) (φ₂ := .fp8e5m2) x w r n
/-- the next, added to it, -/
theorem pay5_at : k0_pay5 (F := Ideal) x w v (ix2 r n) = v (ix2 r n) + ∑ k : Fin 1024, x (ix2 r k) * w (ix2 k n) := by
  unfold k0_pay5
  rw [cast_same, cast_same, dot_own]
  exact congrArg (v (ix2 r n) + ·) (entry (φ₁ := .fp8e5m2) (φ₂ := .fp8e5m2) x w r n)
/-- the third, -/
theorem pay8_at : k0_pay8 (F := Ideal) (k0_pay7 x w v) (ix2 r n) = v (ix2 r n) + ∑ k : Fin 1024, x (ix2 r k) * w (ix2 k n) := by
  unfold k0_pay8 k0_pay7
  dsimp only
  rw [cast_same, cast_same, dot_own]
  exact congrArg (v (ix2 r n) + ·) (entry (φ₁ := .fp8e5m2) (φ₂ := .fp8e5m2) x w r n)
/-- and the last, the sum then scaled. -/
theorem pay10_at (s : EReal) : k0_pay10 (F := Ideal) s x w v (ix2 r n) = (v (ix2 r n) + ∑ k : Fin 1024, x (ix2 r k) * w (ix2 k n)) * s := by
  unfold k0_pay10
  rw [cast_same, cast_same, dot_own]
  exact congrArg (fun z => (v (ix2 r n) + z) * s) (entry (φ₁ := .fp8e5m2) (φ₂ := .fp8e5m2) x w r n)
end Own

/-- A rectangle of some rows and columns of a matrix, at an entry. -/
theorem cut_at {M N M' N' a b : ℕ} (h : ∀ i, (![a, b] : Fin 2 → ℕ) i + (![M', N'] : Fin 2 → ℕ) i ≤ (![M, N] : Fin 2 → ℕ) i)
    (f : (⟨2, ![M, N]⟩ : Shape).Idx → EReal) (r : Fin M') (n : Fin N') (r' : Fin M) (n' : Fin N) (hr : r'.val = a + r.val) (hn : n'.val = b + n.val) :
    cut (Rect.unit (s := ⟨2, ![M, N]⟩) ![a, b] ![M', N'] h) f (ix2 r n) = f (ix2 r' n') := by
  refine congrArg f (funext fun i => Fin.ext ?_)
  match i with
  | ⟨0, _⟩ => show a + 1 * r.val = r'.val; omega
  | ⟨1, _⟩ => show b + 1 * n.val = n'.val; omega

/-- The device's own rows at an entry: a whole row times a whole column, scaled. -/
theorem own_at (s : EReal) (X : S1024x4096.Idx → EReal) (w : S4096x2048.Idx → EReal) (r : Fin 1024) (n : Fin 2048) :
    ownVal (F := Ideal) s X w (ix2 r n) = (∑ k : Fin 4096, X (ix2 r k) * w (ix2 k n)) * s := by
  unfold ownVal
  refine (pay10_at _ _ _ r n s).trans (congrArg (· * s) ?_)
  rw [pay8_at, pay5_at, pay3_at, quarters]
  have q : ∀ (a : ℕ) (ha : a + 1024 ≤ 4096) (hx hw), (∑ k : Fin 1024, cut (Rect.unit (s := S1024x4096) ![0, a] S1024x1024.size hx) X (ix2 r k)
      * cut (Rect.unit (s := S4096x2048) ![a, 0] S1024x2048.size hw) w (ix2 k n)) = ∑ k : Fin 1024, X (ix2 r ⟨a + k.val, by omega⟩) * w (ix2 ⟨a + k.val, by omega⟩ n) :=
    fun a ha hx hw => Finset.sum_congr rfl fun k _ => congrArg₂ (· * ·)
      (cut_at hx X r k r ⟨a + k.val, by omega⟩ (by omega) rfl) (cut_at hw w k n ⟨a + k.val, by omega⟩ n rfl (by omega))
  have q0 := q 0 (by omega) inb_S1024x4096_S1024x1024_0_0 inb_S4096x2048_S1024x2048_0_0
  simp only [Nat.zero_add] at q0
  exact congrArg₂ (· + ·) (congrArg₂ (· + ·) (congrArg₂ (· + ·) q0 (q 1024 (by omega) _ _)) (q 2048 (by omega) _ _)) (q 3072 (by omega) _ _)

/-- A block of rows of another device at an entry. -/
theorem chunk256_at (s : EReal) (x : S1x256x4096.Idx → EReal) (w : S4096x2048.Idx → EReal) (r : Fin 256) (n : Fin 2048) :
    chunk256 (F := Ideal) s x w (ix2 r n) = (∑ k : Fin 4096, x (ix3 (0 : Fin 1) r k) * w (ix2 k n)) * s := by
  unfold chunk256
  rw [dot_256]
  refine congrArg (· * s) ((entry (φ₁ := .fp8e5m2) (φ₂ := .fp8e5m2) _ _ r n).trans (Finset.sum_congr rfl fun k _ => congrArg (· * _) ?_))
  refine (shapeCast_dropUnit_apply ![256, 4096] _ _ _).trans (congrArg x (funext fun i => ?_))
  match i with
  | ⟨0, _⟩ => rfl
  | ⟨1, _⟩ => rfl
  | ⟨2, _⟩ => rfl
/-- The same of a block of 128 rows. -/
theorem chunk128_at (s : EReal) (x : S1x128x4096.Idx → EReal) (w : S4096x2048.Idx → EReal) (r : Fin 128) (n : Fin 2048) :
    chunk128 (F := Ideal) s x w (ix2 r n) = (∑ k : Fin 4096, x (ix3 (0 : Fin 1) r k) * w (ix2 k n)) * s := by
  unfold chunk128
  rw [dot_128]
  refine congrArg (· * s) ((entry (φ₁ := .fp8e5m2) (φ₂ := .fp8e5m2) _ _ r n).trans (Finset.sum_congr rfl fun k _ => congrArg (· * _) ?_))
  refine (shapeCast_dropUnit_apply ![128, 4096] _ _ _).trans (congrArg x (funext fun i => ?_))
  match i with
  | ⟨0, _⟩ => rfl
  | ⟨1, _⟩ => rfl
  | ⟨2, _⟩ => rfl

/-! ## The result -/

section Whole
variable (m : (ℓ : Loc nD τ sig) → Buf (Elt Ideal) ℓ) (c : Dev nD)

/-- The device whose block a plane of the communication buffer holds. -/
def held (p : Fin 3) : Dev nD := if p.val = 0 then rgt c else if p.val = 1 then lft c else opp c

/-- A row of the communication buffer is a row of that device's block of `x`. -/
theorem comm_at (p : Fin 3) (lo : ℕ) (M : ℕ) (h : ∀ i, (![p.val, lo, 0] : Fin 3 → ℕ) i + (![1, M, 4096] : Fin 3 → ℕ) i ≤ S3x1024x4096.size i)
    (i : Fin M) (k : Fin 4096) (r : Fin 1024) (hr : r.val = lo + i.val) :
    cut (Rect.unit (s := S3x1024x4096) ![p.val, lo, 0] ![1, M, 4096] h) (cC m c) (ix3 (0 : Fin 1) i k) = xC m (held c p) (ix2 r k) := by
  have e : (Rect.unit (s := S3x1024x4096) ![p.val, lo, 0] ![1, M, 4096] h).emb (ix3 (0 : Fin 1) i k) = ix3 p r k := by
    funext a
    apply Fin.ext
    match a with
    | ⟨0, _⟩ => show p.val + 1 * 0 = p.val; omega
    | ⟨1, _⟩ => show lo + 1 * i.val = r.val; omega
    | ⟨2, _⟩ => show 0 + 1 * k.val = k.val; omega
  have e2 : rc (ix3 p r k) = ix2 r k := by
    funext a
    match a with
    | ⟨0, _⟩ => rfl
    | ⟨1, _⟩ => rfl
  show cC m c _ = _
  rw [e]
  unfold cC held
  rw [e2]
  show (if p.val = 0 then _ else if p.val = 1 then _ else _) = _
  split_ifs <;> rfl

/-- An entry of the product of device `d`'s block of `x` with this device's columns of the weights, scaled. -/
def dotAt (d : Dev nD) (r : Fin 1024) (n : Fin 2048) : EReal :=
  (∑ k : Fin 4096, (xC m d (ix2 r k) : EReal) * (wC m c (ix2 k n) : EReal)) * ((sA m c zero1 : EReal) * (sB m c zero1 : EReal))

/-- A window of some rows of the result, read at an entry. -/
theorem window_at {M : ℕ} {off : Fin 2 → ℕ} (h : ∀ a, off a + (![M, 2048] : Fin 2 → ℕ) a ≤ S4096x2048.size a) (lo : ℕ) (hoff : off = ![lo, 0]) (o : S4096x2048.Idx → EReal)
    (r : Fin M) (n : Fin 2048) (R : Fin 4096) (hR : R.val = lo + r.val) :
    ((Memref.whole main_v1).slice (Rect.unit (s := S4096x2048) off ![M, 2048] h) (fun _ => rfl)).view.read (Elt Ideal) o (ix2 r n) = o (ix2 R n) := by
  subst hoff
  exact cut_at h o r n R n hR (by omega)

/-- Every entry of the result: row `r` of device `d`'s block times a column of this device's weights. -/
theorem result_at (o : S4096x2048.Idx → EReal) (h : Holds m c o) (d : Dev nD) (r : Fin 1024) (n : Fin 2048) (R : Fin 4096) (hR : R.val = 1024 * d.val + r.val) :
    o (ix2 R n) = dotAt m c d r n := by
  obtain ⟨h0, h2, h3⟩ := h
  have hd : d.val < 4 := d.isLt
  have hc : c.val < 4 := c.isLt
  have hr : r.val < 1024 := r.isLt
  have near : ∀ a : Fin 2, held c ⟨a.val, by omega⟩ = d → d.val = (c.val + 2 * a.val + 1) % 4 → o (ix2 R n) = dotAt m c d r n := by
    intro a ha hda
    have e := congrFun (h2 a ⟨r.val / 256, by omega⟩) (ix2 (⟨r.val % 256, Nat.mod_lt _ (by decide)⟩ : Fin 256) n)
    refine ((window_at _ (1024 * d.val + 256 * (r.val / 256)) ((Gen.k0_off2_eq c a ⟨r.val / 256, by omega⟩).trans (by rw [hda])) o _ n R (by
      show R.val = _ + r.val % 256; omega)).symm.trans e).trans ?_
    unfold val2 dotAt
    refine (chunk256_at _ _ _ _ n).trans (congrArg (· * _) (Finset.sum_congr rfl fun k _ => congrArg (· * _) ?_))
    exact (comm_at m c ⟨a.val, by omega⟩ _ 256 _ _ k r (by show r.val = 256 * (r.val / 256) + r.val % 256; omega)).trans (by rw [ha])
  rcases (show d.val = c.val ∨ d.val = (c.val + 1) % 4 ∨ d.val = (c.val + 3) % 4 ∨ d.val = (c.val + 2) % 4 by omega) with hh | hh | hh | hh
  · obtain rfl : d = c := Fin.ext hh
    exact ((window_at _ (1024 * d.val) (Gen.k0_off1_eq d) o r n R hR).symm.trans (congrFun h0 (ix2 r n))).trans (own_at _ _ _ r n)
  · exact near 0 (Fin.ext hh.symm) hh
  · exact near 1 (Fin.ext hh.symm) hh
  · have e := congrFun (h3 ⟨r.val / 128, by omega⟩) (ix2 (⟨r.val % 128, Nat.mod_lt _ (by decide)⟩ : Fin 128) n)
    refine ((window_at _ (1024 * d.val + 128 * (r.val / 128)) ((Gen.k0_off3_eq c ⟨r.val / 128, by omega⟩).trans (by rw [hh])) o _ n R (by
      show R.val = _ + r.val % 128; omega)).symm.trans e).trans ?_
    unfold val3 dotAt
    refine (chunk128_at _ _ _ _ n).trans (congrArg (· * _) (Finset.sum_congr rfl fun k _ => congrArg (· * _) ?_))
    exact (comm_at m c 2 _ 128 _ _ k r (by show r.val = 128 * (r.val / 128) + r.val % 128; omega)).trans (by
      rw [show held c 2 = d from Fin.ext hh.symm])

end Whole

end Cert.Gather

end
-- ==== Proof.RefResult.lean ====
/-
The reference's result at the ideal values: a row of `x` times a column of the weights, scaled.
-/
module

public import proofs.«01_k».proof.Proof.Gen.ReferenceIdeal.Value
public import Idealize.ShloMosaic.Lib.MatmulPlain
public import Idealize.ShloMosaic.Lib.Pipeline.Value

@[expose] public section

set_option maxRecDepth 65536

noncomputable section

namespace Cert.Plain

open Cert.ReferenceIdeal Cert.ReferenceIdeal.Gen
open Idealize.ShloMosaic
open Idealize.ShloMosaic.TcCoe
open Idealize.SL.Sem
open Idealize.ShloMosaic.Tactic
open Idealize.ShloMosaic.ValueIdx
open scoped BigOperators

variable {F : FTy → Type} [FloatOps F]

/-- The one place of a one-element array. -/
def one : S1.Idx := fun a => ⟨0, by revert a; decide⟩

/-- A one-element array has one place. -/
theorem one_place (i j : S1.Idx) : i = j := by
  funext a; fin_cases a; exact Subsingleton.elim (α := Fin 1) _ _

/-- The offset of a whole matrix is zero. -/
theorem zeros : (![0, 0] : Fin 2 → ℕ) = fun _ => 0 := by decide

/-- What the body leaves in the result's buffer: its one payload, of the whole inputs. -/
theorem body_out (c : Dev nD) (arg0 : Memref sig .tc .vmem S4096x4096 .fp8e5m2) (harg0 : arg0.IsWhole) (arg1 : Memref sig .tc .vmem S4096x8192 .f32) (harg1 : arg1.IsWhole)
    (arg2 : Memref sig .tc .smem S1 .f32) (harg2 : arg2.IsWhole) (arg3 : Memref sig .tc .smem S1 .f32) (harg3 : arg3.IsWhole) (arg4 : Memref sig .tc .vmem S4096x8192 .f32) (harg4 : arg4.IsWhole)
    (x0 : Vec F S4096x4096 .fp8e5m2) (x1 : Vec F S4096x8192 .f32) (x2 : Vec F S1 .f32) (x3 : Vec F S1 .f32) :
    out0_A_4 c arg0 harg0 arg1 harg1 arg2 harg2 arg3 harg3 arg4 harg4 x0 x1 x2 x3 = k0_pay1 x0 x1 (x2 one) (x3 one) := by
  unfold out0_A_4
  rw [View.read_writes_eq_canon _ _ _ (cover0_A_4 c arg0 harg0 arg1 harg1 arg2 harg2 arg3 harg3 arg4 harg4 x0 x1 x2 x3)]
  unfold kernelRun0_A
  dsimp only
  sl_unfold_words
  simp only [View.readAt_eq_ld, harg0.read_unread, harg1.read_unread, harg2.read_unread, harg3.read_unread]
  rw [View.canon_unit_zero zeros, View.ld_unit_zero zeros, View.ld_unit_zero zeros]
  exact congr (congrArg (k0_pay1 x0 x1) (congrArg x2 (one_place _ _))) (congrArg x3 (one_place _ _))

/-- The payload at an entry. -/
theorem pay_at (x : S4096x4096.Idx → EReal) (w : S4096x8192.Idx → EReal) (a b : EReal) (r : Fin 4096) (n : Fin 8192) :
    k0_pay1 (F := Ideal) x w a b (ix2 r n) = (∑ k : Fin 4096, x (ix2 r k) * w (ix2 k n)) * (a * b) := by
  unfold k0_pay1
  rw [show dot_S4096x4096_S4096x8192_S4096x8192_1_0_0_1_n_n = DotDims.plain 4096 4096 8192 from rfl]
  refine congrArg (· * (a * b)) ?_
  refine (Ideal.matmul_plain_apply none _ _ _ r n).trans ?_
  show Ideal.ofBits .f32 0x00000000#32 + _ = _
  rw [Ideal.ofBits_zero_f32, zero_add]
  rfl

variable (m : (ℓ : Loc nD τ sig) → Buf (Elt Ideal) ℓ) (c : Dev nD)

/-- The inputs, -/
def xs : S4096x4096.Idx → EReal := m ((c : Thread nD τ).loc main_arg0)
/-- the weights, -/
def ws : S4096x8192.Idx → EReal := m ((c : Thread nD τ).loc main_arg1)
/-- the scale of `x`, -/
def sx : S1.Idx → EReal := m ((c : Thread nD τ).loc main_arg2)
/-- the scale of the weights, -/
def sw : S1.Idx → EReal := m ((c : Thread nD τ).loc main_arg3)
/-- and the result the reference leaves. -/
def result : S4096x8192.Idx → EReal := (dats m 0 c).arrAt 4 cfg0.N

/-- Every entry of it. -/
theorem result_at (r : Fin 4096) (n : Fin 8192) :
    result m c (ix2 r n) = (∑ k : Fin 4096, xs m c (ix2 r k) * ws m c (ix2 k n)) * (sx m c one * sw m c one) := by
  have h := (Value.blocks4 m c ⟨0, by decide⟩ (by decide +kernel)).trans (Value.flushed4_A m c ⟨0, by decide⟩)
  rw [body_out] at h
  have e : ((cfg0.win 4).blk ⟨0, by decide⟩).view.read (Elt Ideal) ((dats m 0 c).arrAt 4 cfg0.N) (ix2 r n) = result m c (ix2 r n) := by
    refine congrArg (result m c) (funext fun i => Fin.ext ?_)
    match i with
    | ⟨0, _⟩ => show 0 + 1 * r.val = r.val; omega
    | ⟨1, _⟩ => show 0 + 1 * n.val = n.val; omega
  rw [← e, h]
  refine (pay_at _ _ _ _ r n).trans ?_
  have ex : ∀ k : Fin 4096, (iblk m c 0 ⟨0, by decide⟩ : S4096x4096.Idx → EReal) (ix2 r k) = xs m c (ix2 r k) := fun k => by
    refine congrArg (xs m c) (funext fun i => Fin.ext ?_)
    match i with
    | ⟨0, _⟩ => show 0 + 1 * r.val = r.val; omega
    | ⟨1, _⟩ => show 0 + 1 * k.val = k.val; omega
  have ew : ∀ k : Fin 4096, (iblk m c 1 ⟨0, by decide⟩ : S4096x8192.Idx → EReal) (ix2 k n) = ws m c (ix2 k n) := fun k => by
    refine congrArg (ws m c) (funext fun i => Fin.ext ?_)
    match i with
    | ⟨0, _⟩ => show 0 + 1 * k.val = k.val; omega
    | ⟨1, _⟩ => show 0 + 1 * n.val = n.val; omega
  have ea : (iblk m c 2 ⟨0, by decide⟩ : S1.Idx → EReal) one = sx m c one := congrArg (sx m c) (one_place _ _)
  have eb : (iblk m c 3 ⟨0, by decide⟩ : S1.Idx → EReal) one = sw m c one := congrArg (sw m c) (one_place _ _)
  exact congrArg₂ (· * ·) (Finset.sum_congr rfl fun k _ => congrArg₂ (· * ·) (ex k) (ew k)) (congrArg₂ (· * ·) ea eb)

end Cert.Plain

end
-- ==== Proof.Meets.lean ====
/-
The devices' results are the blocks of columns of the reference's.
-/
module

public import proofs.«01_k».proof.Proof.Product
public import proofs.«01_k».proof.Proof.RefResult
public import Idealize.ShloMosaic.Lib.Layout

@[expose] public section

set_option maxRecDepth 16384

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx
open scoped BigOperators

section Meets
variable (m : (ℓ : Loc nD τ sig) → Buf (Elt Ideal) ℓ)
variable (m' : (ℓ : Loc Cert.ReferenceIdeal.nD Cert.ReferenceIdeal.τ Cert.ReferenceIdeal.sig) → Buf (Elt Ideal) ℓ)

/-- The kernel's devices hold the reference's arrays: of `x` each a block of rows, of the weights each a block of columns,
    and the two scales whole. -/
def Shared : Prop := ∀ c : Dev nD,
  m ((c : Thread nD τ).loc main_arg0) = Layout.block ⟨2, ![1024, 4096]⟩ ⟨2, ![4096, 4096]⟩ 0 4 c (Cert.Plain.xs m' 0)
    ∧ m ((c : Thread nD τ).loc main_arg1) = Layout.block ⟨2, ![4096, 2048]⟩ ⟨2, ![4096, 8192]⟩ 1 4 c (Cert.Plain.ws m' 0)
    ∧ m ((c : Thread nD τ).loc main_arg2) = Cert.Plain.sx m' 0
    ∧ m ((c : Thread nD τ).loc main_arg3) = Cert.Plain.sw m' 0

variable {m m'}

/-- An element of a device's staged block of `x` is an element of the whole. -/
theorem x_shared (h : Shared m m') (d : Dev nD) (r : Fin 1024) (k R : Fin 4096) (hR : R.val = 1024 * d.val + r.val) :
    xC m d (ix2 r k) = Cert.Plain.xs m' 0 (ix2 R k) := by
  have e : xC m d (ix2 r k) = m ((d : Thread nD τ).loc main_arg0) (ix2 r k) := by
    refine congrArg (m ((d : Thread nD τ).loc main_arg0)) (funext fun i => Fin.ext ?_)
    match i with
    | ⟨0, _⟩ => show 0 + 1 * r.val = r.val; omega
    | ⟨1, _⟩ => show 0 + 1 * k.val = k.val; omega
  rw [e, (h d).1]
  refine congrArg (Cert.Plain.xs m' 0) (funext fun i => Fin.ext ?_)
  match i with
  | ⟨0, _⟩ => show d.val * 1024 + r.val = R.val; omega
  | ⟨1, _⟩ => rfl

/-- An element of a device's weights is an element of the whole, -/
theorem w_shared (h : Shared m m') (c : Dev nD) (k : Fin 4096) (n : Fin 2048) (N : Fin 8192) (hN : N.val = 2048 * c.val + n.val) :
    wC m c (ix2 k n) = Cert.Plain.ws m' 0 (ix2 k N) := by
  show m ((c : Thread nD τ).loc main_arg1) (ix2 k n) = _
  rw [(h c).2.1]
  refine congrArg (Cert.Plain.ws m' 0) (funext fun i => Fin.ext ?_)
  match i with
  | ⟨0, _⟩ => rfl
  | ⟨1, _⟩ => show c.val * 2048 + n.val = N.val; omega

/-- and its scales are the reference's. -/
theorem sx_shared (h : Shared m m') (c : Dev nD) : sA m c zero1 = Cert.Plain.sx m' 0 Cert.Plain.one := by
  have e : sA m c zero1 = m ((c : Thread nD τ).loc main_arg2) zero1 := congrArg (m ((c : Thread nD τ).loc main_arg2)) (one_place _ _)
  rw [e, (h c).2.2.1]
  rfl
/-- The second scale is the reference's. -/
theorem sw_shared (h : Shared m m') (c : Dev nD) : sB m c zero1 = Cert.Plain.sw m' 0 Cert.Plain.one := by
  have e : sB m c zero1 = m ((c : Thread nD τ).loc main_arg3) zero1 := congrArg (m ((c : Thread nD τ).loc main_arg3)) (one_place _ _)
  rw [e, (h c).2.2.2]
  rfl

/-- A device's result is its block of columns of the reference's result. -/
theorem meets (h : Shared m m') (c : Dev nD) (o : S4096x2048.Idx → EReal) (ho : Holds m c o) :
    o = Layout.block ⟨2, ![4096, 2048]⟩ ⟨2, ![4096, 8192]⟩ 1 4 c (Cert.Plain.result m' 0) := by
  funext y
  have hy0 : (y 0).val < 4096 := (y 0).isLt
  have hy1 : (y 1).val < 2048 := (y 1).isLt
  have hc : c.val < 4 := c.isLt
  have el : o y = dotAt m c ⟨(y 0).val / 1024, by show (y 0).val / 1024 < 4; omega⟩ ⟨(y 0).val % 1024, Nat.mod_lt _ (by decide)⟩ ⟨(y 1).val, hy1⟩ :=
    (congrArg o (eq_ix2 y)).trans (result_at m c o ho _ _ _ _ (by show (y 0).val = 1024 * ((y 0).val / 1024) + (y 0).val % 1024; omega))
  have er : (Layout.block ⟨2, ![4096, 2048]⟩ ⟨2, ![4096, 8192]⟩ 1 4 c (Cert.Plain.result m' 0) : S4096x2048.Idx → EReal) y
      = Cert.Plain.result m' 0 (ix2 (⟨(y 0).val, hy0⟩ : Fin 4096) (⟨2048 * c.val + (y 1).val, by omega⟩ : Fin 8192)) := by
    refine congrArg (Cert.Plain.result m' 0) (funext fun i => Fin.ext ?_)
    match i with
    | ⟨0, _⟩ => rfl
    | ⟨1, _⟩ => show c.val * 2048 + (y 1).val = 2048 * c.val + (y 1).val; omega
  rw [el, er, Cert.Plain.result_at]
  unfold dotAt
  exact congrArg₂ (· * ·) (Finset.sum_congr rfl fun k _ => congrArg₂ (· * ·)
    (x_shared h _ _ k _ (by show (y 0).val = 1024 * ((y 0).val / 1024) + (y 0).val % 1024; omega)) (w_shared h c k _ _ rfl))
    (congrArg₂ (· * ·) (sx_shared h c) (sw_shared h c))

end Meets

end Cert.Gather

end
-- ==== Proof.lean ====
/-
The claims, assembled: the frames of the kernel, of the kernel at the ideal values and of the reference, and that the
kernel's results are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Meets
public import Idealize.ShloMosaic.Adequacy
public import Idealize.ShloMosaic.Init

@[expose] public section

noncomputable section

namespace Cert.Proof

open Idealize.ShloMosaic Idealize.SL.Sem Cert.Kernel

/-- The printed program is its twin for the ideal values, taken at the words: so it is framed if the twin is. -/
theorem kernel_twin : Cert.quiescent_Kernel (hKernel := Cert.Kernel.Gen.facts)
    = ∀ (m : (ℓ : Loc Cert.KernelIdeal.nD Cert.KernelIdeal.τ Cert.KernelIdeal.sig) → Buf (Elt Bits) ℓ) (g : Dev Cert.KernelIdeal.nD → PrngReg), True →
      θ_run (Cert.KernelIdeal.defs (F := Bits)) (onTc (τ := Cert.KernelIdeal.τ) (Cert.KernelIdeal.main (F := Bits))) ⟨m, fun _ => 0, g⟩ (fun r => (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
        ∧ r.2.sem = fun _ => 0) := by
  sl_kernel_rfl

/-- The kernel runs, leaves its arguments and every semaphore as they were. -/
theorem kernel_frame : Cert.quiescent_Kernel (hKernel := Cert.Kernel.Gen.facts) :=
  kernel_twin.mpr fun m ρ _ => (θ_run Cert.KernelIdeal.defs _ _).mono (fun _ h => ⟨fun c => (h.1 c).2, h.2⟩) (Cert.Gather.run_main (F := Bits) m ρ)

/-- So does the same program at the ideal values, -/
theorem ideal_frame : Cert.quiescent_KernelIdeal (hKernelIdeal := Cert.KernelIdeal.Gen.facts) := fun m ρ _ =>
  (θ_run Cert.KernelIdeal.defs _ _).mono (fun _ h => ⟨fun c => (h.1 c).2, h.2⟩) (Cert.Gather.run_main (F := Ideal) m ρ)

/-- and the reference. -/
theorem reference_frame : Cert.quiescent_ReferenceIdeal (hReferenceIdeal := Cert.ReferenceIdeal.Gen.facts) := fun m ρ _ =>
  Cert.ReferenceIdeal.Gen.frame m ρ

/-- At the ideal values the devices' results are the blocks of columns of the reference's result. -/
theorem agree : Cert.algebraic_KernelIdeal_ReferenceIdeal (hKernelIdeal := Cert.KernelIdeal.Gen.facts) (hReferenceIdeal := Cert.ReferenceIdeal.Gen.facts) :=
  fun m ρ m' ρ' _ hsh => ⟨Cert.Plain.result m' 0,
    (θ_run Cert.KernelIdeal.defs _ _).mono (fun _ h c => ⟨Cert.Gather.meets (m := m) (m' := m') hsh c _ (h.1 c).1, (h.1 c).2⟩) (Cert.Gather.run_main (F := Ideal) m ρ),
    (θ_run Cert.ReferenceIdeal.defs _ _).mono (fun _ h => h 0) (Cert.ReferenceIdeal.Value.run_blocks m' ρ')⟩

/-- Everything that is claimed. -/
theorem claim : Cert.Claim := ⟨Cert.Kernel.Gen.facts, Cert.KernelIdeal.Gen.facts, Cert.ReferenceIdeal.Gen.facts,
  kernel_frame, ideal_frame, reference_frame, trivial, agree⟩

end Cert.Proof

end
